-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite_KernelIdeal [hPre_x_finite_KernelIdeal : Cert.Pre_x_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite_ReferenceIdeal [hPre_x_finite_ReferenceIdeal : Cert.Pre_x_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_x_finite_KernelIdeal [hKernelIdeal : Cert.KernelIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_x_finite_ReferenceIdeal [hReferenceIdeal : Cert.ReferenceIdeal.Facts] [hPre_x_finite_ReferenceIdeal : Cert.Pre_x_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_x_finite_KernelIdeal [hKernelIdeal : Cert.KernelIdeal.Facts] [hReferenceIdeal : Cert.ReferenceIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite_KernelIdeal m →
    (∀ c : Dev Cert.KernelIdeal.nD,
      m ((c.tc : Thread Cert.KernelIdeal.nD Cert.KernelIdeal.τ).loc Cert.KernelIdeal.main_arg0) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_x_finite_KernelIdeal : Cert.Pre_x_finite_KernelIdeal.Facts) (hPre_x_finite_ReferenceIdeal : Cert.Pre_x_finite_ReferenceIdeal.Facts),
    quiescent_Kernel (hKernel := hKernel)
    ∧ quiescent_KernelIdeal (hKernelIdeal := hKernelIdeal)
    ∧ quiescent_KernelIdeal_pre_x_finite_KernelIdeal (hKernelIdeal := hKernelIdeal) (hPre_x_finite_KernelIdeal := hPre_x_finite_KernelIdeal)
    ∧ quiescent_ReferenceIdeal (hReferenceIdeal := hReferenceIdeal)
    ∧ quiescent_ReferenceIdeal_pre_x_finite_ReferenceIdeal (hReferenceIdeal := hReferenceIdeal) (hPre_x_finite_ReferenceIdeal := hPre_x_finite_ReferenceIdeal)
    ∧ preserves_Kernel_KernelIdeal
    ∧ algebraic_KernelIdeal_ReferenceIdeal_pre_x_finite_KernelIdeal (hKernelIdeal := hKernelIdeal) (hReferenceIdeal := hReferenceIdeal) (hPre_x_finite_KernelIdeal := hPre_x_finite_KernelIdeal)
-- ==== Pre_x_finite_KernelIdeal.lean ====
abbrev S1024x1024 : Shape := ⟨2, ![1024, 1024]⟩
abbrev S1024 : Shape := ⟨1, ![1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S1024x1024 .f32) (main_arg1 : FVec F S1024x1024 .f32) (main_arg2 : FVec F S1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  main_v3
-- ==== Pre_x_finite_ReferenceIdeal.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) (main_arg2 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S1024x1024 : Shape := ⟨2, ![1024, 1024]⟩
abbrev S1024 : Shape := ⟨1, ![1024]⟩
abbrev S2x1024 : Shape := ⟨2, ![2, 1024]⟩
abbrev S2x2x1024 : Shape := ⟨3, ![2, 2, 1024]⟩
abbrev S2x7x2x1024 : Shape := ⟨4, ![2, 7, 2, 1024]⟩
abbrev S2x7 : Shape := ⟨2, ![2, 7]⟩
abbrev S_ : Shape := ⟨0, ![]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S1x2x1024 : Shape := ⟨3, ![1, 2, 1024]⟩
abbrev S1x1 : Shape := ⟨2, ![1, 1]⟩
abbrev S1x1x2x1024 : Shape := ⟨4, ![1, 1, 2, 1024]⟩
abbrev S1x7x2x1024 : Shape := ⟨4, ![1, 7, 2, 1024]⟩
abbrev S7x2x1024 : Shape := ⟨3, ![7, 2, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024, .f32⟩
  | .hbm, ⟨3, _⟩ => ⟨S2x1024, .f32⟩
  | .local _ .vmem, ⟨0, _⟩ => ⟨S1024x1024, .f32⟩
  | .local _ .vmem, ⟨1, _⟩ => ⟨S1024x1024, .f32⟩
  | .local _ .vmem, ⟨2, _⟩ => ⟨S2x1024, .f32⟩
  | .local _ .vmem, ⟨3, _⟩ => ⟨S2x2x1024, .f32⟩
  | .local _ .vmem, ⟨4, _⟩ => ⟨S2x7x2x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 1 31 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_76 : BitVec 32 := 6#32
  let v126 : BitVec 32 := Scalar.addi v2 c6_i32_76
  let c8_i32_77 : BitVec 32 := 8#32
  let c0_i32_78 : BitVec 32 := 0#32
  let v127 : BitVec 1 := Scalar.cmpi .eq c8_i32_77 c0_i32_78
  let c1_i32_79 : BitVec 32 := 1#32
  let v128 : BitVec 32 := Scalar.select v127 c1_i32_79 c8_i32_77
  let v129 : BitVec 32 := Scalar.remsi v126 v128
  let c0_i32_81 : BitVec 32 := 0#32
  let v131 : BitVec 1 := Scalar.cmpi .slt v129 c0_i32_81
  let c0_i32_82 : BitVec 32 := 0#32
  let v132 : BitVec 1 := Scalar.cmpi .slt v128 c0_i32_82
  let v133 : BitVec 1 := Scalar.xori v131 v132
  let c0_i32_80 : BitVec 32 := 0#32
  let v130 : BitVec 1 := Scalar.cmpi .ne v129 c0_i32_80
  let v134 : BitVec 1 := Scalar.andi v133 v130
  let v135 : BitVec 32 := Scalar.addi v129 v128
  let v136 : BitVec 32 := Scalar.select v134 v135 v129
  let c1_i32_90 : BitVec 32 := 1#32
  let v137 : BitVec 32 := Scalar.muli v136 c1_i32_90
  let v138 : BitVec 32 := Scalar.addi c0_i32_91 v137
  v138.toNat
def k0_dev9 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_96 : BitVec 32 := 2#32
  let v147 : BitVec 32 := Scalar.addi v2 c2_i32_96
  let c8_i32_97 : BitVec 32 := 8#32
  let c0_i32_98 : BitVec 32 := 0#32
  let v148 : BitVec 1 := Scalar.cmpi .eq c8_i32_97 c0_i32_98
  let c1_i32_99 : BitVec 32 := 1#32
  let v149 : BitVec 32 := Scalar.select v148 c1_i32_99 c8_i32_97
  let v150 : BitVec 32 := Scalar.remsi v147 v149
  let c0_i32_101 : BitVec 32 := 0#32
  let v152 : BitVec 1 := Scalar.cmpi .slt v150 c0_i32_101
  let c0_i32_102 : BitVec 32 := 0#32
  let v153 : BitVec 1 := Scalar.cmpi .slt v149 c0_i32_102
  let v154 : BitVec 1 := Scalar.xori v152 v153
  let c0_i32_100 : BitVec 32 := 0#32
  let v151 : BitVec 1 := Scalar.cmpi .ne v150 c0_i32_100
  let v155 : BitVec 1 := Scalar.andi v154 v151
  let v156 : BitVec 32 := Scalar.addi v150 v149
  let v157 : BitVec 32 := Scalar.select v155 v156 v150
  let c1_i32_110 : BitVec 32 := 1#32
  let v158 : BitVec 32 := Scalar.muli v157 c1_i32_110
  let v159 : BitVec 32 := Scalar.addi c0_i32_111 v158
  v159.toNat
def k0_dev10 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_116 : BitVec 32 := 5#32
  let v168 : BitVec 32 := Scalar.addi v2 c5_i32_116
  let c8_i32_117 : BitVec 32 := 8#32
  let c0_i32_118 : BitVec 32 := 0#32
  let v169 : BitVec 1 := Scalar.cmpi .eq c8_i32_117 c0_i32_118
  let c1_i32_119 : BitVec 32 := 1#32
  let v170 : BitVec 32 := Scalar.select v169 c1_i32_119 c8_i32_117
  let v171 : BitVec 32 := Scalar.remsi v168 v170
  let c0_i32_121 : BitVec 32 := 0#32
  let v173 : BitVec 1 := Scalar.cmpi .slt v171 c0_i32_121
  let c0_i32_122 : BitVec 32 := 0#32
  let v174 : BitVec 1 := Scalar.cmpi .slt v170 c0_i32_122
  let v175 : BitVec 1 := Scalar.xori v173 v174
  let c0_i32_120 : BitVec 32 := 0#32
  let v172 : BitVec 1 := Scalar.cmpi .ne v171 c0_i32_120
  let v176 : BitVec 1 := Scalar.andi v175 v172
  let v177 : BitVec 32 := Scalar.addi v171 v170
  let v178 : BitVec 32 := Scalar.select v176 v177 v171
  let c1_i32_130 : BitVec 32 := 1#32
  let v179 : BitVec 32 := Scalar.muli v178 c1_i32_130
  let v180 : BitVec 32 := Scalar.addi c0_i32_131 v179
  v180.toNat
def k0_dev11 (d0 : Dev nD) : Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_136 : BitVec 32 := 7#32
  let v189 : BitVec 32 := Scalar.addi v2 c7_i32_136
  let c8_i32_137 : BitVec 32 := 8#32
  let c0_i32_138 : BitVec 32 := 0#32
  let v190 : BitVec 1 := Scalar.cmpi .eq c8_i32_137 c0_i32_138
  let c1_i32_139 : BitVec 32 := 1#32
  let v191 : BitVec 32 := Scalar.select v190 c1_i32_139 c8_i32_137
  let v192 : BitVec 32 := Scalar.remsi v189 v191
  let c0_i32_141 : BitVec 32 := 0#32
  let v194 : BitVec 1 := Scalar.cmpi .slt v192 c0_i32_141
  let c0_i32_142 : BitVec 32 := 0#32
  let v195 : BitVec 1 := Scalar.cmpi .slt v191 c0_i32_142
  let v196 : BitVec 1 := Scalar.xori v194 v195
  let c0_i32_140 : BitVec 32 := 0#32
  let v193 : BitVec 1 := Scalar.cmpi .ne v192 c0_i32_140
  let v197 : BitVec 1 := Scalar.andi v196 v193
  let v198 : BitVec 32 := Scalar.addi v192 v191
  let v199 : BitVec 32 := Scalar.select v197 v198 v192
  let c1_i32_150 : BitVec 32 := 1#32
  let v200 : BitVec 32 := Scalar.muli v199 c1_i32_150
  let v201 : BitVec 32 := Scalar.addi c0_i32_151 v200
  v201.toNat
def k0_dev12 (d0 : Dev nD) : Nat :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_156 : BitVec 32 := 3#32
  let v210 : BitVec 32 := Scalar.addi v2 c3_i32_156
  let c8_i32_157 : BitVec 32 := 8#32
  let c0_i32_158 : BitVec 32 := 0#32
  let v211 : BitVec 1 := Scalar.cmpi .eq c8_i32_157 c0_i32_158
  let c1_i32_159 : BitVec 32 := 1#32
  let v212 : BitVec 32 := Scalar.select v211 c1_i32_159 c8_i32_157
  let v213 : BitVec 32 := Scalar.remsi v210 v212
  let c0_i32_161 : BitVec 32 := 0#32
  let v215 : BitVec 1 := Scalar.cmpi .slt v213 c0_i32_161
  let c0_i32_162 : BitVec 32 := 0#32
  let v216 : BitVec 1 := Scalar.cmpi .slt v212 c0_i32_162
  let v217 : BitVec 1 := Scalar.xori v215 v216
  let c0_i32_160 : BitVec 32 := 0#32
  let v214 : BitVec 1 := Scalar.cmpi .ne v213 c0_i32_160
  let v218 : BitVec 1 := Scalar.andi v217 v214
  let v219 : BitVec 32 := Scalar.addi v213 v212
  let v220 : BitVec 32 := Scalar.select v218 v219 v213
  let c1_i32_170 : BitVec 32 := 1#32
  let v221 : BitVec 32 := Scalar.muli v220 c1_i32_170
  let v222 : BitVec 32 := Scalar.addi c0_i32_171 v221
  v222.toNat
def k0_dev13 (d0 : Dev nD) : Nat :=
  let c0_i32_191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_176 : BitVec 32 := 1#32
  let v231 : BitVec 32 := Scalar.addi v2 c1_i32_176
  let c8_i32_177 : BitVec 32 := 8#32
  let c0_i32_178 : BitVec 32 := 0#32
  let v232 : BitVec 1 := Scalar.cmpi .eq c8_i32_177 c0_i32_178
  let c1_i32_179 : BitVec 32 := 1#32
  let v233 : BitVec 32 := Scalar.select v232 c1_i32_179 c8_i32_177
  let v234 : BitVec 32 := Scalar.remsi v231 v233
  let c0_i32_181 : BitVec 32 := 0#32
  let v236 : BitVec 1 := Scalar.cmpi .slt v234 c0_i32_181
  let c0_i32_182 : BitVec 32 := 0#32
  let v237 : BitVec 1 := Scalar.cmpi .slt v233 c0_i32_182
  let v238 : BitVec 1 := Scalar.xori v236 v237
  let c0_i32_180 : BitVec 32 := 0#32
  let v235 : BitVec 1 := Scalar.cmpi .ne v234 c0_i32_180
  let v239 : BitVec 1 := Scalar.andi v238 v235
  let v240 : BitVec 32 := Scalar.addi v234 v233
  let v241 : BitVec 32 := Scalar.select v239 v240 v234
  let c1_i32_190 : BitVec 32 := 1#32
  let v242 : BitVec 32 := Scalar.muli v241 c1_i32_190
  let v243 : BitVec 32 := Scalar.addi c0_i32_191 v242
  v243.toNat
def k0_dev14 (d0 : Dev nD) : Nat :=
  let c0_i32_211 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_196 : BitVec 32 := 4#32
  let v252 : BitVec 32 := Scalar.addi v2 c4_i32_196
  let c8_i32_197 : BitVec 32 := 8#32
  let c0_i32_198 : BitVec 32 := 0#32
  let v253 : BitVec 1 := Scalar.cmpi .eq c8_i32_197 c0_i32_198
  let c1_i32_199 : BitVec 32 := 1#32
  let v254 : BitVec 32 := Scalar.select v253 c1_i32_199 c8_i32_197
  let v255 : BitVec 32 := Scalar.remsi v252 v254
  let c0_i32_201 : BitVec 32 := 0#32
  let v257 : BitVec 1 := Scalar.cmpi .slt v255 c0_i32_201
  let c0_i32_202 : BitVec 32 := 0#32
  let v258 : BitVec 1 := Scalar.cmpi .slt v254 c0_i32_202
  let v259 : BitVec 1 := Scalar.xori v257 v258
  let c0_i32_200 : BitVec 32 := 0#32
  let v256 : BitVec 1 := Scalar.cmpi .ne v255 c0_i32_200
  let v260 : BitVec 1 := Scalar.andi v259 v256
  let v261 : BitVec 32 := Scalar.addi v255 v254
  let v262 : BitVec 32 := Scalar.select v260 v261 v255
  let c1_i32_210 : BitVec 32 := 1#32
  let v263 : BitVec 32 := Scalar.muli v262 c1_i32_210
  let v264 : BitVec 32 := Scalar.addi c0_i32_211 v263
  v264.toNat
def k0_dev15 (d0 : Dev nD) : Nat :=
  let c0_i32_243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_228 : BitVec 32 := 6#32
  let v304 : BitVec 32 := Scalar.addi v2 c6_i32_228
  let c8_i32_229 : BitVec 32 := 8#32
  let c0_i32_230 : BitVec 32 := 0#32
  let v305 : BitVec 1 := Scalar.cmpi .eq c8_i32_229 c0_i32_230
  let c1_i32_231 : BitVec 32 := 1#32
  let v306 : BitVec 32 := Scalar.select v305 c1_i32_231 c8_i32_229
  let v307 : BitVec 32 := Scalar.remsi v304 v306
  let c0_i32_233 : BitVec 32 := 0#32
  let v309 : BitVec 1 := Scalar.cmpi .slt v307 c0_i32_233
  let c0_i32_234 : BitVec 32 := 0#32
  let v310 : BitVec 1 := Scalar.cmpi .slt v306 c0_i32_234
  let v311 : BitVec 1 := Scalar.xori v309 v310
  let c0_i32_232 : BitVec 32 := 0#32
  let v308 : BitVec 1 := Scalar.cmpi .ne v307 c0_i32_232
  let v312 : BitVec 1 := Scalar.andi v311 v308
  let v313 : BitVec 32 := Scalar.addi v307 v306
  let v314 : BitVec 32 := Scalar.select v312 v313 v307
  let c1_i32_242 : BitVec 32 := 1#32
  let v315 : BitVec 32 := Scalar.muli v314 c1_i32_242
  let v316 : BitVec 32 := Scalar.addi c0_i32_243 v315
  v316.toNat
def k0_dev16 (d0 : Dev nD) : Nat :=
  let c0_i32_263 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_248 : BitVec 32 := 2#32
  let v325 : BitVec 32 := Scalar.addi v2 c2_i32_248
  let c8_i32_249 : BitVec 32 := 8#32
  let c0_i32_250 : BitVec 32 := 0#32
  let v326 : BitVec 1 := Scalar.cmpi .eq c8_i32_249 c0_i32_250
  let c1_i32_251 : BitVec 32 := 1#32
  let v327 : BitVec 32 := Scalar.select v326 c1_i32_251 c8_i32_249
  let v328 : BitVec 32 := Scalar.remsi v325 v327
  let c0_i32_253 : BitVec 32 := 0#32
  let v330 : BitVec 1 := Scalar.cmpi .slt v328 c0_i32_253
  let c0_i32_254 : BitVec 32 := 0#32
  let v331 : BitVec 1 := Scalar.cmpi .slt v327 c0_i32_254
  let v332 : BitVec 1 := Scalar.xori v330 v331
  let c0_i32_252 : BitVec 32 := 0#32
  let v329 : BitVec 1 := Scalar.cmpi .ne v328 c0_i32_252
  let v333 : BitVec 1 := Scalar.andi v332 v329
  let v334 : BitVec 32 := Scalar.addi v328 v327
  let v335 : BitVec 32 := Scalar.select v333 v334 v328
  let c1_i32_262 : BitVec 32 := 1#32
  let v336 : BitVec 32 := Scalar.muli v335 c1_i32_262
  let v337 : BitVec 32 := Scalar.addi c0_i32_263 v336
  v337.toNat
def k0_dev17 (d0 : Dev nD) : Nat :=
  let c0_i32_283 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_268 : BitVec 32 := 5#32
  let v346 : BitVec 32 := Scalar.addi v2 c5_i32_268
  let c8_i32_269 : BitVec 32 := 8#32
  let c0_i32_270 : BitVec 32 := 0#32
  let v347 : BitVec 1 := Scalar.cmpi .eq c8_i32_269 c0_i32_270
  let c1_i32_271 : BitVec 32 := 1#32
  let v348 : BitVec 32 := Scalar.select v347 c1_i32_271 c8_i32_269
  let v349 : BitVec 32 := Scalar.remsi v346 v348
  let c0_i32_273 : BitVec 32 := 0#32
  let v351 : BitVec 1 := Scalar.cmpi .slt v349 c0_i32_273
  let c0_i32_274 : BitVec 32 := 0#32
  let v352 : BitVec 1 := Scalar.cmpi .slt v348 c0_i32_274
  let v353 : BitVec 1 := Scalar.xori v351 v352
  let c0_i32_272 : BitVec 32 := 0#32
  let v350 : BitVec 1 := Scalar.cmpi .ne v349 c0_i32_272
  let v354 : BitVec 1 := Scalar.andi v353 v350
  let v355 : BitVec 32 := Scalar.addi v349 v348
  let v356 : BitVec 32 := Scalar.select v354 v355 v349
  let c1_i32_282 : BitVec 32 := 1#32
  let v357 : BitVec 32 := Scalar.muli v356 c1_i32_282
  let v358 : BitVec 32 := Scalar.addi c0_i32_283 v357
  v358.toNat
def k0_dev18 (d0 : Dev nD) : Nat :=
  let c0_i32_303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_288 : BitVec 32 := 7#32
  let v367 : BitVec 32 := Scalar.addi v2 c7_i32_288
  let c8_i32_289 : BitVec 32 := 8#32
  let c0_i32_290 : BitVec 32 := 0#32
  let v368 : BitVec 1 := Scalar.cmpi .eq c8_i32_289 c0_i32_290
  let c1_i32_291 : BitVec 32 := 1#32
  let v369 : BitVec 32 := Scalar.select v368 c1_i32_291 c8_i32_289
  let v370 : BitVec 32 := Scalar.remsi v367 v369
  let c0_i32_293 : BitVec 32 := 0#32
  let v372 : BitVec 1 := Scalar.cmpi .slt v370 c0_i32_293
  let c0_i32_294 : BitVec 32 := 0#32
  let v373 : BitVec 1 := Scalar.cmpi .slt v369 c0_i32_294
  let v374 : BitVec 1 := Scalar.xori v372 v373
  let c0_i32_292 : BitVec 32 := 0#32
  let v371 : BitVec 1 := Scalar.cmpi .ne v370 c0_i32_292
  let v375 : BitVec 1 := Scalar.andi v374 v371
  let v376 : BitVec 32 := Scalar.addi v370 v369
  let v377 : BitVec 32 := Scalar.select v375 v376 v370
  let c1_i32_302 : BitVec 32 := 1#32
  let v378 : BitVec 32 := Scalar.muli v377 c1_i32_302
  let v379 : BitVec 32 := Scalar.addi c0_i32_303 v378
  v379.toNat
def k0_dev19 (d0 : Dev nD) : Nat :=
  let c0_i32_323 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_308 : BitVec 32 := 3#32
  let v388 : BitVec 32 := Scalar.addi v2 c3_i32_308
  let c8_i32_309 : BitVec 32 := 8#32
  let c0_i32_310 : BitVec 32 := 0#32
  let v389 : BitVec 1 := Scalar.cmpi .eq c8_i32_309 c0_i32_310
  let c1_i32_311 : BitVec 32 := 1#32
  let v390 : BitVec 32 := Scalar.select v389 c1_i32_311 c8_i32_309
  let v391 : BitVec 32 := Scalar.remsi v388 v390
  let c0_i32_313 : BitVec 32 := 0#32
  let v393 : BitVec 1 := Scalar.cmpi .slt v391 c0_i32_313
  let c0_i32_314 : BitVec 32 := 0#32
  let v394 : BitVec 1 := Scalar.cmpi .slt v390 c0_i32_314
  let v395 : BitVec 1 := Scalar.xori v393 v394
  let c0_i32_312 : BitVec 32 := 0#32
  let v392 : BitVec 1 := Scalar.cmpi .ne v391 c0_i32_312
  let v396 : BitVec 1 := Scalar.andi v395 v392
  let v397 : BitVec 32 := Scalar.addi v391 v390
  let v398 : BitVec 32 := Scalar.select v396 v397 v391
  let c1_i32_322 : BitVec 32 := 1#32
  let v399 : BitVec 32 := Scalar.muli v398 c1_i32_322
  let v400 : BitVec 32 := Scalar.addi c0_i32_323 v399
  v400.toNat
def k0_dev20 (d0 : Dev nD) : Nat :=
  let c0_i32_343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_328 : BitVec 32 := 1#32
  let v409 : BitVec 32 := Scalar.addi v2 c1_i32_328
  let c8_i32_329 : BitVec 32 := 8#32
  let c0_i32_330 : BitVec 32 := 0#32
  let v410 : BitVec 1 := Scalar.cmpi .eq c8_i32_329 c0_i32_330
  let c1_i32_331 : BitVec 32 := 1#32
  let v411 : BitVec 32 := Scalar.select v410 c1_i32_331 c8_i32_329
  let v412 : BitVec 32 := Scalar.remsi v409 v411
  let c0_i32_333 : BitVec 32 := 0#32
  let v414 : BitVec 1 := Scalar.cmpi .slt v412 c0_i32_333
  let c0_i32_334 : BitVec 32 := 0#32
  let v415 : BitVec 1 := Scalar.cmpi .slt v411 c0_i32_334
  let v416 : BitVec 1 := Scalar.xori v414 v415
  let c0_i32_332 : BitVec 32 := 0#32
  let v413 : BitVec 1 := Scalar.cmpi .ne v412 c0_i32_332
  let v417 : BitVec 1 := Scalar.andi v416 v413
  let v418 : BitVec 32 := Scalar.addi v412 v411
  let v419 : BitVec 32 := Scalar.select v417 v418 v412
  let c1_i32_342 : BitVec 32 := 1#32
  let v420 : BitVec 32 := Scalar.muli v419 c1_i32_342
  let v421 : BitVec 32 := Scalar.addi c0_i32_343 v420
  v421.toNat
def k0_dev21 (d0 : Dev nD) : Nat :=
  let c0_i32_363 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_348 : BitVec 32 := 4#32
  let v430 : BitVec 32 := Scalar.addi v2 c4_i32_348
  let c8_i32_349 : BitVec 32 := 8#32
  let c0_i32_350 : BitVec 32 := 0#32
  let v431 : BitVec 1 := Scalar.cmpi .eq c8_i32_349 c0_i32_350
  let c1_i32_351 : BitVec 32 := 1#32
  let v432 : BitVec 32 := Scalar.select v431 c1_i32_351 c8_i32_349
  let v433 : BitVec 32 := Scalar.remsi v430 v432
  let c0_i32_353 : BitVec 32 := 0#32
  let v435 : BitVec 1 := Scalar.cmpi .slt v433 c0_i32_353
  let c0_i32_354 : BitVec 32 := 0#32
  let v436 : BitVec 1 := Scalar.cmpi .slt v432 c0_i32_354
  let v437 : BitVec 1 := Scalar.xori v435 v436
  let c0_i32_352 : BitVec 32 := 0#32
  let v434 : BitVec 1 := Scalar.cmpi .ne v433 c0_i32_352
  let v438 : BitVec 1 := Scalar.andi v437 v434
  let v439 : BitVec 32 := Scalar.addi v433 v432
  let v440 : BitVec 32 := Scalar.select v438 v439 v433
  let c1_i32_362 : BitVec 32 := 1#32
  let v441 : BitVec 32 := Scalar.muli v440 c1_i32_362
  let v442 : BitVec 32 := Scalar.addi c0_i32_363 v441
  v442.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2x1024 : Shape := ⟨2, ![2, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .i32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S1x1024, .f32⟩
  | .hbm, ⟨51, _⟩ => ⟨S2x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.Cells.lean ====
/-
  The exchange's cells. Device `c` has one barrier cell, fourteen send cells and fourteen receive cells: one of each
  per half `h` of its rows and per peer `j`, where peer `j` of `c` is the device `j + 1` places on around the mesh.
  This module names the buffers' slots and the cells, states the one-round schedule of the whole exchange (who pays
  which cell, how much, and what the payment hands over), what each device owes at the start, and the levels that
  order the waits.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.SparseCore.Stream
public import Idealize.ShloMosaic.Lib.ValueIdxCore
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F]

/-! ## The resource algebra: the launch's own copy beside the exchange's, whose duties are named by peers -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Peers -/

/-- How far on peer `j` lies. -/
def stp (j : Fin 7) : Dev nD := ⟨j.val + 1, by have := j.isLt; show j.val + 1 < 8; omega⟩

/-- Peer `j` of `c`. -/
abbrev peer (c : Dev nD) (j : Fin 7) : Dev nD := c + stp j

/-- The peer of whom `c` is peer `j`. -/
abbrev rev (j : Fin 7) : Fin 7 := Fin.rev j

/-- Going on to peer `j` and then to that device's peer `rev j` comes back. -/
theorem peer_peer_rev (c : Dev nD) (j : Fin 7) : peer (peer c j) (rev j) = c := by revert c j; decide
/-- So does going the two ways in the other order. -/
theorem peer_rev_peer (c : Dev nD) (j : Fin 7) : peer (peer c (rev j)) j = c := by revert c j; decide
/-- Turning a distance round twice gives it back. -/
theorem rev_rev (j : Fin 7) : rev (rev j) = j := Fin.rev_rev j
/-- A device's seven peers are distinct. -/
theorem peer_inj (c : Dev nD) : Function.Injective (peer c) := by revert c; decide

/-- Going on to peer `j`, for all devices at once. -/
def shift (j : Fin 7) : Dev nD ≃ Dev nD := ⟨fun c => peer c j, fun c => peer c (rev j), fun c => peer_peer_rev c j, fun c => peer_rev_peer c j⟩

/-! ## The buffers, their slots and the cells -/

abbrev xM : Memref sig .tc .vmem S1024x1024 .f32 := Memref.whole cc0_stg0_0
abbrev yM : Memref sig .tc .vmem S1024x1024 .f32 := Memref.whole cc0_stg1_0
abbrev oM : Memref sig .tc .vmem S2x1024 .f32 := Memref.whole cc0_stg2_0
abbrev sB : Memref sig .tc .vmem S2x2x1024 .f32 := Memref.whole cc0_scratch0
abbrev rB : Memref sig .tc .vmem S2x7x2x1024 .f32 := Memref.whole cc0_scratch1

/-- A half's rows lie inside a device's block, -/
theorem inbX (h : Fin 2) : ∀ a, (![512 * h.val, 0] : Fin 2 → Nat) a + S512x1024.size a ≤ S1024x1024.size a := by revert h; decide
/-- a half's slot inside the sending buffer, -/
theorem inbS (h : Fin 2) : ∀ a, (![h.val, 0, 0] : Fin 3 → Nat) a + S1x2x1024.size a ≤ S2x2x1024.size a := by revert h; decide
/-- a half's slot for one peer inside the receiving buffer, -/
theorem inbR (h : Fin 2) (j : Fin 7) : ∀ a, (![h.val, j.val, 0, 0] : Fin 4 → Nat) a + S1x1x2x1024.size a ≤ S2x7x2x1024.size a := by
  revert h j; decide
/-- and its semaphore inside the array of semaphores. -/
theorem inbQ (h : Fin 2) (j : Fin 7) : ∀ a, (![h.val, j.val] : Fin 2 → Nat) a + S1x1.size a ≤ S2x7.size a := by revert h j; decide

/-- Half `h` of the rows of an input block. -/
abbrev xR (h : Fin 2) : Rect S1024x1024 := Rect.unit (s := S1024x1024) ![512 * h.val, 0] S512x1024.size (inbX h)
/-- Half `h`'s slot of the sending buffer, -/
abbrev sR (h : Fin 2) : Rect S2x2x1024 := Rect.unit (s := S2x2x1024) ![h.val, 0, 0] S1x2x1024.size (inbS h)
abbrev sM (h : Fin 2) : Memref sig .tc .vmem S2x1024 .f32 :=
  (sB.slice (sR h) (fun _ => rfl)).squeeze S2x1024 squeezes_S1x2x1024_S2x1024
/-- and its slot `j` of the receiving buffer. -/
abbrev rR (h : Fin 2) (j : Fin 7) : Rect S2x7x2x1024 := Rect.unit (s := S2x7x2x1024) ![h.val, j.val, 0, 0] S1x1x2x1024.size (inbR h j)
abbrev rM (h : Fin 2) (j : Fin 7) : Memref sig .tc .vmem S2x1024 .f32 :=
  (rB.slice (rR h j) (fun _ => rfl)).squeeze S2x1024 squeezes_S1x1x2x1024_S2x1024

abbrev barS : Sem sig := (SemArray.scalar (sig.barrier 0 rfl) : Sems sig S_).sem
abbrev sendS (h : Fin 2) (j : Fin 7) : DmaSems sig S_ :=
  (cc0_scratch2.slice (Rect.unit (s := S2x7) ![h.val, j.val] S1x1.size (inbQ h j))).squeeze S_ squeezes_S1x1_S_
abbrev recvS (h : Fin 2) (j : Fin 7) : DmaSems sig S_ :=
  (cc0_scratch3.slice (Rect.unit (s := S2x7) ![h.val, j.val] S1x1.size (inbQ h j))).squeeze S_ squeezes_S1x1_S_

/-- The transfers' cells of a device: `(false, h, j)` the send cell, `(true, h, j)` the receive cell of half `h` and
    peer `j`. -/
abbrev Own : Type := Bool × Fin 2 × Fin 7
/-- All its cells: those and, as `none`, the barrier cell. -/
abbrev Cell : Type := Option Own

def osem (k : Own) : SemLoc sig := if k.1 then .dma (recvS k.2.1 k.2.2).sem else .dma (sendS k.2.1 k.2.2).sem
def csem : Cell → SemLoc sig
  | none => .reg barS
  | some k => osem k
abbrev kcell (ck : Dev nD × Cell) : GSem nD τ sig := ((ck.1 : Thread nD τ), csem ck.2)

abbrev barCell (c : Dev nD) : GSem nD τ sig := ((c : Thread nD τ), .reg barS)
abbrev sendCell (h : Fin 2) (j : Fin 7) (c : Dev nD) : GSem nD τ sig := ((c : Thread nD τ), .dma (sendS h j).sem)
abbrev recvCell (h : Fin 2) (j : Fin 7) (c : Dev nD) : GSem nD τ sig := ((c : Thread nD τ), .dma (recvS h j).sem)

set_option maxRecDepth 20000 in
/-- Distinct cells are on distinct semaphores. -/
theorem csem_inj : Function.Injective csem := by decide +kernel

/-- Which of a device's cells a semaphore is. -/
def kindOf (s : SemLoc sig) : Option Cell := Function.partialInv csem s

/-- A cell's semaphore is recognised as that cell's: -/
theorem kindOf_csem (k : Cell) : kindOf (csem k) = some k := Function.partialInv_left csem_inj k
/-- the barrier's, -/
theorem kindOf_bar : kindOf (.reg barS) = some none := kindOf_csem none
/-- a send semaphore, -/
theorem kindOf_send (h : Fin 2) (j : Fin 7) : kindOf (.dma (sendS h j).sem) = some (some (false, h, j)) := kindOf_csem (some (false, h, j))
/-- a receive semaphore. -/
theorem kindOf_recv (h : Fin 2) (j : Fin 7) : kindOf (.dma (recvS h j).sem) = some (some (true, h, j)) := kindOf_csem (some (true, h, j))
/-- A semaphore recognised as a cell's is that cell's. -/
theorem csem_of_kindOf {s : SemLoc sig} {k : Cell} (h : kindOf s = some k) : csem k = s :=
  (Function.partialInv_of_injective csem_inj k s).mp h

/-- The credit of one transfer of a slot. -/
abbrev N : ℕ := (rM 0 0).view.dmaCredit
/-- A transfer pays at least one unit. -/
theorem N_pos : 0 < N := View.dmaCredit_pos _ (by decide)

/-! ## The contents -/

variable (m : (ℓ : Loc nD τ sig) → Buf (Elt F) ℓ)

/-- Device `c`'s blocks of the two inputs. -/
def xAt (c : Dev nD) : (cc0_stg0_0 : Ref sig .tc).ty.Contents (Elt F) :=
  (win0_0.blk (0 : Fin 1)).view.read (Elt F) (m ((c : Thread nD τ).loc main_arg0))
def yAt (c : Dev nD) : (cc0_stg1_0 : Ref sig .tc).ty.Contents (Elt F) :=
  (win0_1.blk (0 : Fin 1)).view.read (Elt F) (m ((c : Thread nD τ).loc main_arg1))

/-- The rows of half `h` of them. -/
def xHalf (c : Dev nD) (h : Fin 2) : Vec F S512x1024 .f32 := xM.view.readAt (Elt F) (xR h).toLoadRect (xAt m c)
def yHalf (c : Dev nD) (h : Fin 2) : Vec F S512x1024 .f32 := yM.view.readAt (Elt F) (xR h).toLoadRect (yAt m c)

/-- The partial sums device `c` takes of half `h` of its rows. -/
def part (c : Dev nD) (h : Fin 2) : FVec F S2x1024 .f32 := k0_pay3 (k0_pay2 (xHalf m c h)) (yHalf m c h)

/-- What device `c`'s sending buffer holds once both halves' sums are stored: -/
def sentBuf (c : Dev nD) : (cc0_scratch0 : Ref sig .tc).ty.Contents (Elt F) :=
  fun i : S2x2x1024.Idx => part m c (i 0) (ix2 (i 1) (i 2))
/-- its receiving buffer once every transfer has landed: slot `j` comes from the device of whom `c` is peer `j`. -/
def landedBuf (c : Dev nD) : (cc0_scratch1 : Ref sig .tc).ty.Contents (Elt F) :=
  fun i : S2x7x2x1024.Idx => part m (peer c (rev (i 1))) (i 0) (ix2 (i 2) (i 3))

/-- Half `h`'s slot of device `c`'s sending buffer at contents `f`: a share of it. -/
abbrev sPts (q : PosShare TreeShare) (c : Dev nD) (h : Fin 2) (f : Buf (Elt F) ((sM h).view.loc (c : Thread nD τ))) : sProp 𝕄 :=
  (sM h).view.loc (c : Thread nD τ) ↦[(sM h).view.set]{q} f
/-- Slot `(h, j)` of its receiving buffer at contents `f`. -/
abbrev rPts (c : Dev nD) (h : Fin 2) (j : Fin 7) (f : Buf (Elt F) ((rM h j).view.loc (c : Thread nD τ))) : sProp 𝕄 :=
  (rM h j).view.loc (c : Thread nD τ) ↦[(rM h j).view.set]{fullShare} f

/-- The share of a sending slot lent to the transfer to peer `j`. -/
def lent (j : Fin 7) : PosShare TreeShare := pieceOf fullShare 7 (by decide) j

/-! ## The schedule -/

/-- Duty `e` of `c`'s barrier cell is paid by peer `e`, and hands `c` peer `e`'s two slots that `c` will write. -/
def barPay (c : Dev nD) (e : Fin 7) : sProp 𝕄 := iprop((∃ f, rPts (peer c e) 0 e f) ∗ ∃ f, rPts (peer c e) 1 e f)
/-- A send cell hands back the lent share of the slot the transfer read; -/
def sendPay (c : Dev nD) (h : Fin 2) (j : Fin 7) : sProp 𝕄 := sPts (lent j) c h (sentBuf m c)
/-- a receive cell the slot, landed. -/
def recvPay (c : Dev nD) (h : Fin 2) (j : Fin 7) : sProp 𝕄 := rPts c h j (landedBuf m c)

/-- Each of the three payloads can be kept in an invariant, -/
instance barPay_storable (c : Dev nD) (e : Fin 7) : BI.Storable (upEmb : UEmb _ 𝕄) (barPay (F := F) c e) := by
  unfold barPay; infer_instance
instance sendPay_storable (c : Dev nD) (h : Fin 2) (j : Fin 7) : BI.Storable (upEmb : UEmb _ 𝕄) (sendPay (F := F) m c h j) := by
  unfold sendPay; infer_instance
instance recvPay_storable (c : Dev nD) (h : Fin 2) (j : Fin 7) : BI.Storable (upEmb : UEmb _ 𝕄) (recvPay (F := F) m c h j) := by
  unfold recvPay; infer_instance

def dutiesOf : Option Cell → Finset (Fin 7)
  | none => ∅
  | some none => Finset.univ
  | some (some _) => {0}
def amountOf : Option Cell → ℕ
  | some none => 1
  | _ => N
def payOf (c : Dev nD) (d : Fin 7) : Option Cell → sProp 𝕄
  | none => iprop(emp)
  | some none => barPay c d
  | some (some (false, h, j)) => sendPay m c h j
  | some (some (true, h, j)) => recvPay m c h j

/-- so whatever cell it is of, -/
instance payOf_storable (c : Dev nD) (d : Fin 7) : (k : Option Cell) → BI.Storable (upEmb : UEmb _ 𝕄) (payOf (F := F) m c d k)
  | none => by unfold payOf; infer_instance
  | some none => by unfold payOf; infer_instance
  | some (some (false, _, _)) => by unfold payOf; infer_instance
  | some (some (true, _, _)) => by unfold payOf; infer_instance

/-- One round: a barrier cell has seven duties of one unit, a transfer's cell one duty of the slot's credit. -/
def sched : Rounds.Schedule (GSem nD τ sig) (Fin 7) 𝕄 where
  duties g r := if r = 0 ∧ g.1.2 = .tc then dutiesOf (kindOf g.2) else ∅
  unitless _ := False
  amount g _ _ := amountOf (kindOf g.2)
  payload g _ d := payOf m g.1.1 d (kindOf g.2)
  amount_pos g _ _ _ := by
    rcases kindOf g.2 with _ | _ | _
    · exact N_pos
    · exact Nat.one_pos
    · exact N_pos

/-- and so of every round of the schedule. -/
instance sched_payload_storable (g : GSem nD τ sig) (r : ℕ) (d : Fin 7) : BI.Storable (upEmb : UEmb _ 𝕄) ((sched (F := F) m).payload g r d) := by
  show BI.Storable upEmb (payOf m g.1.1 d (kindOf g.2)); infer_instance

section Table
variable (c : Dev nD) (h : Fin 2) (j : Fin 7)

/-- The only round of a barrier cell has a duty for each peer, -/
theorem duties_bar : (sched (F := F) m).duties (barCell c) 0 = Finset.univ := by
  dsimp only [sched]; rw [if_pos ⟨rfl, rfl⟩, kindOf_bar]; rfl
/-- that of a send cell one duty, -/
theorem duties_send : (sched (F := F) m).duties (sendCell h j c) 0 = {0} := by
  dsimp only [sched]; rw [if_pos ⟨rfl, rfl⟩, kindOf_send]; rfl
/-- and so that of a receive cell; -/
theorem duties_recv : (sched (F := F) m).duties (recvCell h j c) 0 = {0} := by
  dsimp only [sched]; rw [if_pos ⟨rfl, rfl⟩, kindOf_recv]; rfl
/-- no later round has any. -/
theorem duties_later (g : GSem nD τ sig) : ∀ r, 1 ≤ r → (sched (F := F) m).duties g r = ∅ :=
  fun r hr => by dsimp only [sched]; rw [if_neg fun h => by omega]

/-- A barrier duty pays one unit, -/
theorem amount_bar (d : Fin 7) : (sched (F := F) m).amount (barCell c) 0 d = 1 := by dsimp only [sched]; rw [kindOf_bar]; rfl
/-- a send cell's a transfer's units, -/
theorem amount_send (d : Fin 7) : (sched (F := F) m).amount (sendCell h j c) 0 d = N := by dsimp only [sched]; rw [kindOf_send]; rfl
/-- and a receive cell's. -/
theorem amount_recv (d : Fin 7) : (sched (F := F) m).amount (recvCell h j c) 0 d = N := by dsimp only [sched]; rw [kindOf_recv]; rfl

/-- So a barrier's round brings seven units, -/
theorem expect_bar : (sched (F := F) m).expect (barCell c) 0 = 7 := by
  unfold Schedule.expect Schedule.amountOf
  rw [duties_bar, Finset.sum_congr rfl fun d _ => amount_bar m c d, Finset.sum_const, Finset.card_univ, Fintype.card_fin, smul_eq_mul]
/-- a send cell's a transfer's, -/
theorem expect_send : (sched (F := F) m).expect (sendCell h j c) 0 = N := by
  unfold Schedule.expect Schedule.amountOf; rw [duties_send, Finset.sum_singleton, amount_send]
/-- and a receive cell's. -/
theorem expect_recv : (sched (F := F) m).expect (recvCell h j c) 0 = N := by
  unfold Schedule.expect Schedule.amountOf; rw [duties_recv, Finset.sum_singleton, amount_recv]

/-- The payload of a barrier duty, -/
theorem payload_bar (d : Fin 7) : (sched (F := F) m).payload (barCell c) 0 d = barPay c d := by dsimp only [sched]; rw [kindOf_bar]; rfl
/-- of a send cell's duty -/
theorem payload_send (d : Fin 7) : (sched (F := F) m).payload (sendCell h j c) 0 d = sendPay m c h j := by
  dsimp only [sched]; rw [kindOf_send]; rfl
/-- and of a receive cell's. -/
theorem payload_recv (d : Fin 7) : (sched (F := F) m).payload (recvCell h j c) 0 d = recvPay m c h j := by
  dsimp only [sched]; rw [kindOf_recv]; rfl

/-- All a barrier's round hands over: every peer's two slots. -/
theorem rest_bar : bigSep ((sched (F := F) m).duties (barCell c) 0 \ ∅) (fun d => (sched (F := F) m).payload (barCell c) 0 d)
    = bigSep Finset.univ fun e => barPay c e := by
  rw [Finset.sdiff_empty, duties_bar]; exact bigSep_congr fun d _ => payload_bar m c d
/-- A wait for the whole round of a send cell hands over its payload, -/
theorem rest_send : bigSep ((sched (F := F) m).duties (sendCell h j c) 0 \ ∅) (fun d => (sched (F := F) m).payload (sendCell h j c) 0 d)
    = sendPay m c h j := by
  rw [Finset.sdiff_empty, duties_send, bigSep_singleton, payload_send]
/-- and so for a receive cell. -/
theorem rest_recv : bigSep ((sched (F := F) m).duties (recvCell h j c) 0 \ ∅) (fun d => (sched (F := F) m).payload (recvCell h j c) 0 d)
    = recvPay m c h j := by
  rw [Finset.sdiff_empty, duties_recv, bigSep_singleton, payload_recv]

end Table

/-! ## Debts and levels -/

/-- A unit owed to each listed peer's barrier cell; -/
def barDebt (c : Dev nD) (l : List (Fin 7)) : CellTallies nD τ sig Unit := (l.map fun j => tallyAt (barCell (peer c j)) () 1).sum
/-- a slot's credit owed to each listed peer's receive cell of half `h`. -/
def recvDebt (c : Dev nD) (h : Fin 2) (l : List (Fin 7)) : CellTallies nD τ sig Unit := (l.map fun j => tallyAt (recvCell h j (peer c j)) () N).sum

/-- The units owed to the barriers of a list of peers, the first taken apart, -/
theorem barDebt_cons (c : Dev nD) (j : Fin 7) (l : List (Fin 7)) : barDebt c (j :: l) = tallyAt (barCell (peer c j)) () 1 + barDebt c l := by
  unfold barDebt; rw [List.map_cons, List.sum_cons]
/-- and those owed to their receive cells. -/
theorem recvDebt_cons (c : Dev nD) (h : Fin 2) (j : Fin 7) (l : List (Fin 7)) :
    recvDebt c h (j :: l) = tallyAt (recvCell h j (peer c j)) () N + recvDebt c h l := by
  unfold recvDebt; rw [List.map_cons, List.sum_cons]

/-- The order the peers are signalled in, and the order the transfers start in. -/
abbrev sigOrder : List (Fin 7) := [0, 1, 2, 3, 4, 5, 6]
abbrev sendOrder : List (Fin 7) := [5, 1, 4, 6, 2, 0, 3]

/-- What device `c` owes at the start. -/
def O₀ (c : Dev nD) : CellTallies nD τ sig Unit := barDebt c sigOrder + (recvDebt c 0 sendOrder + (recvDebt c 1 sendOrder + 0))

def L (g : GSem nD τ sig) : Finset Unit := if g.1.2 = .tc then {()} else ∅
def lvOf : Option Cell → ℕ
  | some none => 1
  | some (some (true, _, _)) => 2
  | _ => 0
/-- Barrier cells at 1, receive cells at 2, every other at 0. -/
def lv (g : GSem nD τ sig) (_ : Unit) : ℕ := lvOf (kindOf g.2)

/-- Only the cells of the main core have a level. -/
theorem L_of_ne (g : GSem nD τ sig) (h : g.1.2 ≠ .tc) : L g = ∅ := if_neg h
/-- There every semaphore has one. -/
theorem L_tc (c : Dev nD) (sm : SemLoc sig) : L ((c : Thread nD τ), sm) = {()} := if_pos rfl

/-- Everything owed is owed to cells above level `n`. -/
def Above (n : ℕ) (O : CellTallies nD τ sig Unit) : Prop := ∀ g u, 0 < O g u → u ∈ L g ∧ n < lv g u

/-- Owing nothing is above every level. -/
theorem above_zero (n : ℕ) : Above n 0 := fun _ _ h => absurd h (Nat.lt_irrefl 0)
/-- Two debts above a level are so together. -/
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
/-- A debt to one cell is above every level below that cell's. -/
theorem above_tally {n k : ℕ} (c : Dev nD) (sm : SemLoc sig) (hn : n < lvOf (kindOf sm)) :
    Above n (tallyAt ((c : Thread nD τ), sm) () k : CellTallies nD τ sig Unit) := fun g u hg => by
  rw [tallyAt_apply] at hg
  by_cases h : g = ((c : Thread nD τ), sm) ∧ u = ()
  · rw [h.1, L_tc]; exact ⟨Finset.mem_singleton_self _, hn⟩
  · rw [if_neg h] at hg; exact absurd hg (Nat.lt_irrefl 0)
/-- A debt to barriers is above level 0, -/
theorem above_barDebt (c : Dev nD) : (l : List (Fin 7)) → Above 0 (barDebt c l)
  | [] => above_zero 0
  | j :: l => by
    rw [barDebt_cons]
    exact above_add (above_tally _ _ (by rw [kindOf_bar]; decide)) (above_barDebt c l)
/-- one to receive cells above level 1, -/
theorem above_recvDebt {n : ℕ} (hn : n < 2) (c : Dev nD) (h : Fin 2) : (l : List (Fin 7)) → Above n (recvDebt c h l)
  | [] => above_zero n
  | j :: l => by
    rw [recvDebt_cons]
    exact above_add (above_tally _ _ (by rw [kindOf_recv]; exact hn)) (above_recvDebt hn c h l)

/-- and so all that a device owes at first is above level 0. -/
theorem above_O₀ (c : Dev nD) : Above 0 (O₀ c) :=
  above_add (above_barDebt c _) (above_add (above_recvDebt (by decide) c 0 _) (above_add (above_recvDebt (by decide) c 1 _) (above_zero 0)))

/-- A core may wait on a cell at level at most `n` while all it owes lies above. -/
theorem mayWait_above (c : Dev nD) (sm : SemLoc sig) {n : ℕ} {O : CellTallies nD τ sig Unit} (hs : lvOf (kindOf sm) ≤ n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1) (fun p hp => by rw [Finset.mem_singleton.mp hp]; exact hs) (fun g u hg => (hO g u hg).2)

end Cert.Exchange

end
-- ==== Proof.Slots.lean ====
/-
  The slots of the two exchange buffers: where they lie, that they are disjoint and make up their buffer, what a store
  into a sending slot and a transfer into a receiving slot leave there, and what the body's loads read of them.
-/
module

public import proofs.«01_k».proof.Proof.Cells
public import Idealize.ShloMosaic.Lib.ValueLayout
public import Idealize.ShloMosaic.Lib.Pipeline.Value
public import Idealize.ShloMosaic.Lib.Pipeline.ValueKit.Geometry

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## Where the slots lie -/

/-- An index of rank two, three or four by its coordinates. -/
theorem idx2 {a b : ℕ} (i : (⟨2, ![a, b]⟩ : Shape).Idx) : ∃ x y, i = ix2 x y := ⟨i 0, i 1, by funext k; fin_cases k <;> rfl⟩
theorem idx3 {a b c : ℕ} (i : (⟨3, ![a, b, c]⟩ : Shape).Idx) : ∃ x y z, i = ix3 x y z := ⟨i 0, i 1, i 2, by funext k; fin_cases k <;> rfl⟩
theorem idx4 {a b c d : ℕ} (i : (⟨4, ![a, b, c, d]⟩ : Shape).Idx) : ∃ x y z w, i = ix4 x y z w :=
  ⟨i 0, i 1, i 2, i 3, by funext k; fin_cases k <;> rfl⟩

/-- Where an index of a half's slot is in the sending buffer, -/
theorem sR_emb (h : Fin 2) (z : Fin 1) (x : Fin 2) (y : Fin 1024) : (sR h).emb (ix3 z x y) = (ix3 h x y : S2x2x1024.Idx) := by
  funext a; refine Fin.ext ?_
  rw [ValueKit.rect_emb_unit_val]
  have hz : z.val = 0 := by omega
  fin_cases a
  · show h.val + z.val = h.val; omega
  · show 0 + x.val = x.val; omega
  · show 0 + y.val = y.val; omega

/-- and of a slot in the receiving buffer; -/
theorem rR_emb (h : Fin 2) (j : Fin 7) (z w : Fin 1) (x : Fin 2) (y : Fin 1024) :
    (rR h j).emb (ix4 z w x y) = (ix4 h j x y : S2x7x2x1024.Idx) := by
  funext a; refine Fin.ext ?_
  rw [ValueKit.rect_emb_unit_val]
  have hz : z.val = 0 := by omega
  have hw : w.val = 0 := by omega
  fin_cases a
  · show h.val + z.val = h.val; omega
  · show j.val + w.val = j.val; omega
  · show 0 + x.val = x.val; omega
  · show 0 + y.val = y.val; omega

/-- the same through the slot's view of rank two, -/
theorem sM_emb (h : Fin 2) (x : Fin 2) (y : Fin 1024) : (sM h).view.emb (ix2 x y) = (ix3 h x y : S2x2x1024.Idx) := by
  show (sR h).emb (Shape.reshapeEquiv _ (ix2 x y)) = _
  rw [reshapeEquiv_ix2_1ab, sR_emb]

/-- in either buffer. -/
theorem rM_emb (h : Fin 2) (j : Fin 7) (x : Fin 2) (y : Fin 1024) : (rM h j).view.emb (ix2 x y) = (ix4 h j x y : S2x7x2x1024.Idx) := by
  show (rR h j).emb (Shape.reshapeEquiv _ (ix2 x y)) = _
  rw [reshapeEquiv_ix2_11ab, rR_emb]

/-- A half's slot is the indices with that half first, -/
theorem sM_mem (h : Fin 2) (i : S2x2x1024.Idx) : i ∈ (sM h).view.set ↔ i 0 = h := by
  constructor
  · intro hi
    obtain ⟨y, -, rfl⟩ := Finset.mem_map.mp hi
    obtain ⟨a, b, rfl⟩ := idx2 y
    exact congrFun (sM_emb h a b) 0
  · intro hi
    obtain ⟨a, b, d, rfl⟩ := idx3 i
    obtain rfl : a = h := hi
    rw [← sM_emb]; exact View.emb_mem_set _ _

/-- a receiving slot those with its half and distance first. -/
theorem rM_mem (h : Fin 2) (j : Fin 7) (i : S2x7x2x1024.Idx) : i ∈ (rM h j).view.set ↔ i 0 = h ∧ i 1 = j := by
  constructor
  · intro hi
    obtain ⟨y, -, rfl⟩ := Finset.mem_map.mp hi
    obtain ⟨a, b, rfl⟩ := idx2 y
    exact ⟨congrFun (rM_emb h j a b) 0, congrFun (rM_emb h j a b) 1⟩
  · rintro ⟨h0, h1⟩
    obtain ⟨a, b, d, e, rfl⟩ := idx4 i
    obtain rfl : a = h := h0
    obtain rfl : b = j := h1
    rw [← rM_emb]; exact View.emb_mem_set _ _

/-! ## Splitting the buffers into their slots and joining them again -/

/-- The two sending slots are the whole buffer, -/
theorem sM_cover : (Finset.univ : Finset (Fin 2)).biUnion (fun h => (sM h).view.set) = (Finset.univ : Finset S2x2x1024.Idx) := by
  ext i; simp only [Finset.mem_biUnion, Finset.mem_univ, true_and, iff_true]; exact ⟨i 0, (sM_mem _ i).mpr rfl⟩
/-- and apart; -/
theorem sM_disjoint : ∀ h ∈ (Finset.univ : Finset (Fin 2)), ∀ h' ∈ (Finset.univ : Finset (Fin 2)), h ≠ h' → Disjoint (sM h).view.set (sM h').view.set :=
  fun h _ h' _ hne => Finset.disjoint_left.mpr fun i hi hi' => hne (((sM_mem h i).mp hi).symm.trans ((sM_mem h' i).mp hi'))
/-- so are the fourteen receiving slots -/
theorem rM_cover : (Finset.univ : Finset (Fin 2 × Fin 7)).biUnion (fun p => (rM p.1 p.2).view.set) = (Finset.univ : Finset S2x7x2x1024.Idx) := by
  ext i; simp only [Finset.mem_biUnion, Finset.mem_univ, true_and, iff_true]; exact ⟨(i 0, i 1), (rM_mem _ _ i).mpr ⟨rfl, rfl⟩⟩
/-- all apart. -/
theorem rM_disjoint : ∀ p ∈ (Finset.univ : Finset (Fin 2 × Fin 7)), ∀ p' ∈ (Finset.univ : Finset (Fin 2 × Fin 7)), p ≠ p' →
    Disjoint (rM p.1 p.2).view.set (rM p'.1 p'.2).view.set :=
  fun p _ p' _ hne => Finset.disjoint_left.mpr fun i hi hi' => hne (Prod.ext
    (((rM_mem _ _ i).mp hi).1.symm.trans ((rM_mem _ _ i).mp hi').1) (((rM_mem _ _ i).mp hi).2.symm.trans ((rM_mem _ _ i).mp hi').2))

abbrev sWhole (c : Dev nD) (f : Buf (Elt F) ((c : Thread nD τ).loc cc0_scratch0)) : sProp 𝕄 := ((c : Thread nD τ).loc cc0_scratch0) ↦{fullShare} f
abbrev rWhole (c : Dev nD) (f : Buf (Elt F) ((c : Thread nD τ).loc cc0_scratch1)) : sProp 𝕄 := ((c : Thread nD τ).loc cc0_scratch1) ↦{fullShare} f

/-- Something of both halves. -/
theorem bigSep_two (Φ : Fin 2 → sProp 𝕄) : bigSep Finset.univ Φ = iprop(Φ 0 ∗ Φ 1) := bigSep_univ_eq_bigSepL [0, 1] (by decide) (by decide) Φ

/-- Holding the sending buffer is holding its two slots, -/
theorem sWhole_slots (c : Dev nD) (f : Buf (Elt F) ((c : Thread nD τ).loc cc0_scratch0)) :
    (sWhole c f : sProp 𝕄) = iprop(sPts fullShare c 0 f ∗ sPts fullShare c 1 f) := by
  rw [← bigSep_two (fun h => sPts fullShare c h f)]
  refine Eq.trans ?_ (pointsTo_biUnion (ℓ := (c : Thread nD τ).loc cc0_scratch0) Finset.univ (fun h => (sM h).view.set) sM_disjoint)
  rw [sM_cover]

/-- and holding the receiving buffer its fourteen. -/
theorem rWhole_slots (c : Dev nD) (f : Buf (Elt F) ((c : Thread nD τ).loc cc0_scratch1)) :
    (rWhole c f : sProp 𝕄) = iprop((bigSep Finset.univ fun j => rPts c 0 j f) ∗ bigSep Finset.univ fun j => rPts c 1 j f) := by
  rw [← bigSep_two (fun h => bigSep Finset.univ fun j => rPts c h j f), ← bigSep_univ_prod (fun p : Fin 2 × Fin 7 => rPts c p.1 p.2 f)]
  refine Eq.trans ?_ (pointsTo_biUnion (ℓ := (c : Thread nD τ).loc cc0_scratch1) Finset.univ (fun p : Fin 2 × Fin 7 => (rM p.1 p.2).view.set) rM_disjoint)
  rw [rM_cover]

/-- A sending slot held in full is held at the seven shares the transfers borrow. -/
theorem sPts_lent (c : Dev nD) (h : Fin 2) (f : Buf (Elt F) ((sM h).view.loc (c : Thread nD τ))) :
    (sPts fullShare c h f : sProp 𝕄) = bigSep Finset.univ fun j => sPts (lent j) c h f :=
  pointsTo_piecesOf _ f _ fullShare

/-! ## What is stored and what lands -/

variable (m : (ℓ : Loc nD τ sig) → Buf (Elt F) ℓ)

/-- The store of half `h`'s partial sums leaves its sending slot at `sentBuf`. -/
theorem sPts_stored (c : Dev nD) (h : Fin 2) (f : (cc0_scratch0 : Ref sig .tc).ty.Contents (Elt F))
    (w : Vec F S1x2x1024 .f32) (hw : ∀ z x y, w (ix3 z x y) = part m c h (ix2 x y)) :
    (sPts fullShare c h ((sB.access (sR h) : View sig .tc _ _ _).write (Elt F) f w Finset.univ) : sProp 𝕄) = sPts fullShare c h (sentBuf m c) :=
  pointsTo_congr fun i hi => by
    obtain ⟨a, x, y, rfl⟩ := idx3 (show S2x2x1024.Idx from i)
    obtain rfl : a = h := (sM_mem h _).mp hi
    have he : (ix3 a x y : S2x2x1024.Idx) = (sB.access (sR a) : View sig .tc _ _ _).emb (ix3 (0 : Fin 1) x y) := (sR_emb a 0 x y).symm
    rw [he, View.write_emb_of_mem _ _ (Finset.mem_univ _), ← he]
    exact hw 0 x y

/-- The transfer of half `h`'s slot of device `c` to its peer `j` leaves the peer's slot `(h, j)` at `landedBuf`. -/
theorem rPts_landed (c : Dev nD) (h : Fin 2) (j : Fin 7) (f : Buf (Elt F) ((rM h j).view.loc (peer c j : Thread nD τ))) :
    (rPts (peer c j) h j ((rM h j).view.write (Elt F) f ((sM h).view.read (Elt F) (sentBuf m c)) Finset.univ) : sProp 𝕄)
      = rPts (peer c j) h j (landedBuf m (peer c j)) :=
  pointsTo_congr fun i hi => by
    obtain ⟨a, b, x, y, rfl⟩ := idx4 (show S2x7x2x1024.Idx from i)
    obtain ⟨h0, h1⟩ := (rM_mem h j _).mp hi
    obtain rfl : a = h := h0
    obtain rfl : b = j := h1
    have he : (ix4 a b x y : S2x7x2x1024.Idx) = (rM a b).view.emb (ix2 x y) := (rM_emb a b x y).symm
    rw [he, View.write_emb_of_mem _ _ (Finset.mem_univ _), ← he]
    show sentBuf m c ((sM a).view.emb (ix2 x y)) = part m (peer (peer c b) (rev b)) a (ix2 x y)
    rw [sM_emb, peer_peer_rev]
    rfl

/-! ## The loads -/

/-- The indices of a sending slot are those of its rectangle, -/
theorem sM_set (h : Fin 2) : (sM h).view.set = (sR h).set.map sB.view.emb := (View.set_reshape _ _).trans (View.set_slice _ _)
/-- and so of a receiving slot. -/
theorem rM_set (h : Fin 2) (j : Fin 7) : (rM h j).view.set = (rR h j).set.map rB.view.emb := (View.set_reshape _ _).trans (View.set_slice _ _)

/-- A load of a sending slot reads within it, -/
theorem sR_within (h : Fin 2) : sB.view.setOn (sR h).toLoadRect.set ⊆ (sM h).view.set := by
  rw [sM_set]; exact Finset.Subset.refl _
/-- a store into it writes within it, -/
theorem sR_stores (h : Fin 2) : (sB.access (sR h) : View sig .tc _ _ _).setOn Finset.univ ⊆ (sM h).view.set := by
  rw [sM_set, View.setOn_univ]; exact Eq.subset (View.set_slice _ _)
/-- a load of a receiving slot reads within that, -/
theorem rR_within (h : Fin 2) (j : Fin 7) : rB.view.setOn (rR h j).toLoadRect.set ⊆ (rM h j).view.set := by
  rw [rM_set]; exact Finset.Subset.refl _

/-- The first half's seven receiving slots, as one rectangle, -/
abbrev rR₀ : Rect S2x7x2x1024 := Rect.unit (s := S2x7x2x1024) ![0, 0, 0, 0] S1x7x2x1024.size inb_S2x7x2x1024_S1x7x2x1024_0_0_0_0

/-- Where an index of the first half's seven slots together is in the receiving buffer. -/
theorem rR₀_emb (z : Fin 1) (j : Fin 7) (x : Fin 2) (y : Fin 1024) : rR₀.emb (ix4 z j x y) = (ix4 0 j x y : S2x7x2x1024.Idx) := by
  funext a; refine Fin.ext ?_
  rw [ValueKit.rect_emb_unit_val]
  have hz : z.val = 0 := by omega
  fin_cases a
  · show 0 + z.val = 0; omega
  · show 0 + j.val = j.val; omega
  · show 0 + x.val = x.val; omega
  · show 0 + y.val = y.val; omega

/-- which a load of it reads within. -/
theorem rR₀_within : rB.view.setOn rR₀.toLoadRect.set ⊆ (Finset.univ : Finset (Fin 7)).biUnion fun j => (rM 0 j).view.set := by
  have hs : rR₀.toLoadRect.set = Finset.univ.map rR₀.emb := (Rect.map_emb_univ _).symm
  intro i hi
  rw [View.setOn, hs, Finset.map_map] at hi
  obtain ⟨k, -, rfl⟩ := Finset.mem_map.mp hi
  obtain ⟨z, j, x, y, rfl⟩ := idx4 (show S1x7x2x1024.Idx from k)
  exact Finset.mem_biUnion.mpr ⟨j, Finset.mem_univ _, (rM_mem 0 j _).mpr
    ⟨congrFun (rR₀_emb z j x y) 0, congrFun (rR₀_emb z j x y) 1⟩⟩

/-- Half `h`'s seven receiving slots held together. -/
abbrev rHalf (c : Dev nD) (h : Fin 2) (f : Buf (Elt F) ((c : Thread nD τ).loc cc0_scratch1)) : sProp 𝕄 :=
  ((c : Thread nD τ).loc cc0_scratch1) ↦[(Finset.univ : Finset (Fin 7)).biUnion fun j => (rM h j).view.set]{fullShare} f

/-- Holding one half of the receiving buffer is holding its seven slots. -/
theorem rHalf_slots (c : Dev nD) (h : Fin 2) (f : Buf (Elt F) ((c : Thread nD τ).loc cc0_scratch1)) :
    (rHalf c h f : sProp 𝕄) = bigSep Finset.univ fun j => rPts c h j f :=
  pointsTo_biUnion (ℓ := (c : Thread nD τ).loc cc0_scratch1) Finset.univ (fun j => (rM h j).view.set) fun j _ j' _ hne =>
    rM_disjoint (h, j) (Finset.mem_univ _) (h, j') (Finset.mem_univ _) fun he => hne (congrArg Prod.snd he)

/-! ## The kernel's result -/

/-- What the body loads of the first half's landed slots, all at once, -/
def got₀ (c : Dev nD) : Vec F S1x7x2x1024 .f32 := rB.view.readAt (Elt F) rR₀.toLoadRect (landedBuf m c)
/-- and of the second half's slot `j`. -/
def got₁ (c : Dev nD) (j : Fin 7) : Vec F S1x1x2x1024 .f32 := rB.view.readAt (Elt F) (rR 1 j).toLoadRect (landedBuf m c)

/-- What device `c` stores: its own two partial sums, the seven received of the first halves, and the seven of the
    second halves in the order they are waited for. -/
def outAt (c : Dev nD) : (cc0_stg2_0 : Ref sig .tc).ty.Contents (Elt F) :=
  k0_pay1 (k0_pay17 (k0_pay16 (k0_pay15 (k0_pay14 (k0_pay13 (k0_pay12 (part m c 0) (part m c 1) (got₀ m c)) (got₁ m c 3) (got₁ m c 0))
    (got₁ m c 2)) (got₁ m c 6)) (got₁ m c 4)) (got₁ m c 1)) (got₁ m c 5)

/-- The two zero offsets, as a constant function. -/
theorem hz : (![0, 0] : Fin 2 → Nat) = fun _ => 0 := funext fun a => by fin_cases a <;> rfl

/-- The store of the result overwrites the whole output buffer. -/
theorem write_out (f w : (cc0_stg2_0 : Ref sig .tc).ty.Contents (Elt F)) :
    (oM.access (Rect.unit (s := S2x1024) ![0, 0] S2x1024.size inb_S2x1024_S2x1024_0_0) : View sig .tc _ _ _).write (Elt F) f w Finset.univ = w :=
  Memref.write_access_unit_zero_univ (Elt F) cc0_stg2_0 hz _ f w

/-- The sums the body stores for the first half are `part` at that half, laid out with a leading unit axis; -/
theorem stored₀ (c : Dev nD) (z : Fin 1) (x : Fin 2) (y : Fin 1024) :
    k0_pay4 (k0_pay2 (xHalf m c 0)) (yHalf m c 0) (ix3 z x y) = part m c 0 (ix2 x y) := by
  obtain rfl : z = 0 := Subsingleton.elim _ _
  exact shapeCast_ab_1ab_apply (part m c 0) shapeCasts_S2x1024_S1x2x1024 0 x y
/-- and likewise for the second. -/
theorem stored₁ (c : Dev nD) (z : Fin 1) (x : Fin 2) (y : Fin 1024) :
    k0_pay11 (k0_pay5 (xHalf m c 1)) (k0_pay6 (yHalf m c 1)) (k0_pay7 (xHalf m c 1)) (k0_pay8 (xHalf m c 1)) (k0_pay9 (xHalf m c 1)) (ix3 z x y)
      = part m c 1 (ix2 x y) := by
  obtain rfl : z = 0 := Subsingleton.elim _ _
  exact shapeCast_ab_1ab_apply (part m c 1) shapeCasts_S2x1024_S1x2x1024 0 x y
/-- The second half's sums, as the body goes on to use them. -/
theorem part₁_eq (c : Dev nD) :
    k0_pay10 (k0_pay5 (xHalf m c 1)) (k0_pay6 (yHalf m c 1)) (k0_pay7 (xHalf m c 1)) (k0_pay8 (xHalf m c 1)) (k0_pay9 (xHalf m c 1)) = part m c 1 := rfl

end Cert.Exchange

end
-- ==== Proof.Steps.lean ====
/-
  The exchange's steps, each over a whole list of peers: a device signalling its peers, sending a half's partial sums to
  them, and waiting for its transfers of a half and for those it receives. Each is one rule, by induction on the list.
-/
module

public import proofs.«01_k».proof.Proof.Slots

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "Body" => Prog (TpuEff nD τ sig (Elt F) Λ₀ Proc.tc) PUnit

abbrev 𝒱₀ : Variants := Variants.none

variable (m : (ℓ : Loc nD τ sig) → Buf (Elt F) ℓ) (K : Dev nD × Cell → ℕ) (c : Dev nD)

/-! ## What every device knows: each cell's invariant, and that its round 0 is reached -/

def records : sProp 𝕄 :=
  iprop((bigSep Finset.univ fun ck : Dev nD × Cell => cellInv ER (sched m) (K ck) (kcell ck))
    ∗ bigSep Finset.univ fun ck : Dev nD × Cell => reached ER (kcell ck) 0)

/-- The records can be used any number of times. -/
instance records_persistent : BI.Persistent (records (F := F) m K) := by unfold records; infer_instance

/-- They hold every cell's invariant, -/
theorem records_inv (d : Dev nD) (k : Cell) : (records m K : sProp 𝕄) ⊢ cellInv ER (sched m) (K (d, k)) (kcell (d, k)) := by
  unfold records
  exact (sep_mono_left (bigSep_elim (Finset.mem_univ (d, k)))).trans (by iintro ⟨H, -⟩; iexact H)
/-- and that its first round has begun. -/
theorem records_reached (d : Dev nD) (k : Cell) : (records m K : sProp 𝕄) ⊢ reached ER (kcell (d, k)) 0 := by
  unfold records
  exact (sep_mono_right (bigSep_elim (Finset.mem_univ (d, k)))).trans (by iintro ⟨-, H⟩; iexact H)

/-- Something of every member of a list, the first taken apart. -/
theorem bigSepL_step {I : Type} (i : I) (l : List I) (Φ : I → sProp 𝕄) : bigSepL (i :: l) Φ = iprop(Φ i ∗ bigSepL l Φ) := bigSepL_cons i l Φ

/-- Owing `O`, whatever has been waited on. -/
def owing (O : CellTallies nD τ sig Unit) : sProp 𝕄 := iprop(∃ W, owes (c : Thread nD τ) O W)

/-- A list's debt to barriers, the first taken apart before a further debt, -/
theorem barDebt_split (j : Fin 7) (l : List (Fin 7)) (O : CellTallies nD τ sig Unit) :
    barDebt c (j :: l) + O = (barDebt c l + O) + tallyAt (barCell (peer c j)) () 1 := by
  rw [barDebt_cons, add_comm (tallyAt _ _ _), add_right_comm]
/-- and its debt to receive cells. -/
theorem recvDebt_split (h : Fin 2) (j : Fin 7) (l : List (Fin 7)) (O : CellTallies nD τ sig Unit) :
    recvDebt c h (j :: l) + O = (recvDebt c h l + O) + tallyAt (recvCell h j (peer c j)) () N := by
  rw [recvDebt_cons, add_comm (tallyAt _ _ _), add_right_comm]

/-! ## Signalling the peers -/

/-- A unit to the barrier cell of each listed peer's device. -/
def signalAll (dev : Fin 7 → Dev nD) : List (Fin 7) → Body → Body
  | [], k => k
  | j :: l, k => .op (.semSignal (dev j, Proc.tc) barS (1#32 : BitVec 32).toInt) fun _ => signalAll dev l k

/-- What a signal to peer `j` takes: the peer's duty token, and the two slots of the signaller that the peer will write. -/
def signalPre (j : Fin 7) : sProp 𝕄 :=
  iprop(dutyTok ER (barCell (peer c j)) 0 (rev j) ∗ (∃ f, rPts c 0 (rev j) f) ∗ ∃ f, rPts c 1 (rev j) f)

/-- What a device pays to its peer `j`'s barrier: its own two slots that peer will write. -/
theorem barPay_peer (j : Fin 7) : (barPay (peer c j) (rev j) : sProp 𝕄) = iprop((∃ f, rPts c 0 (rev j) f) ∗ ∃ f, rPts c 1 (rev j) f) := by
  unfold barPay; rw [peer_peer_rev]

/-- The signals to the barriers of a list of peers: each pays its duty there, and the debt to those barriers is gone. -/
theorem wp_signalAll (dev : Fin 7 → Dev nD) (hdev : dev = peer c) (O : CellTallies nD τ sig Unit) (k : Body) (Q : PUnit → sProp 𝕄) (l : List (Fin 7)) :
    iprop(records m K ∗ bigSepL l (signalPre c) ∗ owing c (barDebt c l + O))
      ⊢ iprop((owing c O -∗ wp frame (wpE (defs₀ (F := F)) 𝒱₀ (c : Thread nD τ) none) Set.univ k Q)
          -∗ wp frame (wpE (defs₀ (F := F)) 𝒱₀ (c : Thread nD τ) none) Set.univ (signalAll dev l k) Q) := by
  subst hdev
  induction l with
  | nil =>
    iintro ⟨#HR, -, HO⟩ Hk
    iapply Hk
    rw [show barDebt c [] + O = O from zero_add O]; iexact HO
  | cons j l ih =>
    rw [bigSepL_step]
    unfold signalPre owing
    iintro ⟨#HR, ⟨⟨Ht, Hpay⟩, Hl⟩, ⟨%W, HO⟩⟩ Hk
    ihave HI := (records_inv m K (peer c j) none) $$ HR
    ihave Hr := (records_reached m K (peer c j) none) $$ HR
    iapply (Rounds.wp_signal 𝒱₀ ER (sched m) (c : Thread nD τ) none (dst := (peer c j : Thread nD τ)) (κ := K (peer c j, none))
        (d := rev j) (by rw [duties_bar]; exact Finset.mem_univ _) ((amount_bar m (peer c j) (rev j)).trans (by decide)) () (O₀ := barDebt c (j :: l) + O) (barDebt c l + O)
        (barDebt_split c j l O)) $$ [HI HO Ht Hpay Hr]
    · isplitl [HI]; · iexact HI
      isplitl [HO]; · iexact HO
      isplitl [Ht]; · iexact Ht
      isplitl [Hpay]
      · rw [payload_bar, barPay_peer]; iexact Hpay
      iexact Hr
    iintro HO
    iapply ih $$ [Hl HO]
    · isplitr; · iexact HR
      isplitl [Hl]; · unfold signalPre; iexact Hl
      unfold owing; iexists W; iexact HO
    unfold owing
    iexact Hk

/-! ## Sending a half's sums -/

/-- The transfer of half `h`'s sending slot to slot `(h, j)` of device `n`. -/
def sendOp (h : Fin 2) (j : Fin 7) (n : Dev nD) : TpuEff nD τ sig (Elt F) Λ₀ Proc.tc PUnit :=
  .enqueueDma (sM h) (.remote (Dev.tc n) (rM h j) (.dma (sendS h j).sem)) (.dma (recvS h j).sem)
    ((View.wordExact_bits rfl).reshape _ _) ((View.wordExact_bits rfl).reshape _ _) ⟨⟨rfl, Or.inl rfl⟩, trivial⟩

def sendAll (h : Fin 2) (dev : Fin 7 → Dev nD) : List (Fin 7) → Body → Body
  | [], k => k
  | j :: l, k => .op (sendOp h j (dev j)) fun _ => sendAll h dev l k

/-- What the transfer to peer `j` takes: a share of the sending slot, the peer's receiving slot and the two duty tokens. -/
def sendPre (h : Fin 2) (j : Fin 7) : sProp 𝕄 :=
  iprop(sPts (lent j) c h (sentBuf m c) ∗ (∃ f, rPts (peer c j) h j f)
    ∗ dutyTok ER (sendCell h j c) 0 0 ∗ dutyTok ER (recvCell h j (peer c j)) 0 0)

/-- The transfers of half `h` to a list of peers: the debt to their receive cells is gone, and the device has each send cell's credit. -/
theorem wp_sendAll (h : Fin 2) (dev : Fin 7 → Dev nD) (hdev : dev = peer c) (O : CellTallies nD τ sig Unit) (k : Body) (Q : PUnit → sProp 𝕄)
    (l : List (Fin 7)) :
    iprop(records m K ∗ bigSepL l (sendPre m c h) ∗ owing c (recvDebt c h l + O))
      ⊢ iprop(((bigSepL l fun j => cred (tallyAt (sendCell h j c) () N)) ∗ owing c O
            -∗ wp frame (wpE (defs₀ (F := F)) 𝒱₀ (c : Thread nD τ) none) Set.univ k Q)
          -∗ wp frame (wpE (defs₀ (F := F)) 𝒱₀ (c : Thread nD τ) none) Set.univ (sendAll h dev l k) Q) := by
  subst hdev
  induction l with
  | nil =>
    iintro ⟨#HR, -, HO⟩ Hk
    iapply Hk
    isplitr; · rw [bigSepL_nil]; iempintro
    rw [show recvDebt c h [] + O = O from zero_add O]; iexact HO
  | cons j l ih =>
    rw [bigSepL_step, bigSepL_step]
    unfold sendPre owing
    iintro ⟨#HR, ⟨⟨Hs, ⟨%fd, Hd⟩, Ht, Ht'⟩, Hl⟩, ⟨%W, HO⟩⟩ Hk
    ihave HI := (records_inv m K c (some (false, h, j))) $$ HR
    ihave HI' := (records_inv m K (peer c j) (some (true, h, j))) $$ HR
    ihave Hr := (records_reached m K c (some (false, h, j))) $$ HR
    ihave Hr' := (records_reached m K (peer c j) (some (true, h, j))) $$ HR
    iapply (Rounds.wp_send_pointsTo 𝒱₀ ER (sched m) (c : Thread nD τ) none (κ₁ := K (c, some (false, h, j))) (κ₂ := K (peer c j, some (true, h, j)))
      (c' := (peer c j : Thread nD τ)) (src := sM h) (dst := rM h j) (sS := .dma (sendS h j).sem) (sem := .dma (recvS h j).sem)
      (r₁ := 0) (r₂ := 0) (d₁ := 0) (d₂ := 0) (q := lent j) (fs := sentBuf m c) (fd := fd)
      (by rw [duties_send]; exact Finset.mem_singleton_self _) (by rw [duties_recv]; exact Finset.mem_singleton_self _)
      () () N rfl (amount_send m c h j 0) (amount_recv m (peer c j) h j 0) (O₀ := recvDebt c h (j :: l) + O) (recvDebt c h l + O)
      (recvDebt_split c h j l O) (W := W)
      (by rw [payload_send]; exact BI.Entails.refl _)
      (by rw [payload_recv]; exact Entails.of_eq (rPts_landed m c h j fd))) $$ [HI HI' Hs Hd HO Ht Hr Ht' Hr']
    · isplitl [HI]; · iexact HI
      isplitl [HI']; · iexact HI'
      isplitl [Hs]; · iexact Hs
      isplitl [Hd]; · iexact Hd
      isplitl [HO]; · iexact HO
      isplitl [Ht]; · iexact Ht
      isplitl [Hr]; · iexact Hr
      isplitl [Ht']; · iexact Ht'
      iexact Hr'
    iintro ⟨Hc, HO⟩
    iapply ih $$ [Hl HO]
    · isplitr; · iexact HR
      isplitl [Hl]; · unfold sendPre; iexact Hl
      unfold owing; iexists W; iexact HO
    iintro ⟨Hl, HO⟩
    iapply Hk
    unfold owing
    isplitl [Hc Hl]
    · isplitl [Hc]; · iexact Hc
      iexact Hl
    iexact HO

/-! ## Waiting for a pair of transfers: the one to peer `j` to have left, the one into slot `j` to have landed -/

def waitPair (h : Fin 2) (j : Fin 7) (k : Body) : Body :=
  .op (.waitDma2 (sendS h j).sem (rM h j) (sM h) ((View.wordExact_bits rfl).reshape _ _) ((View.wordExact_bits rfl).reshape _ _)) fun _ =>
    .op (.waitDma2 (recvS h j).sem (sM h) (rM h j) ((View.wordExact_bits rfl).reshape _ _) ((View.wordExact_bits rfl).reshape _ _)) fun _ => k

def waitPre (h : Fin 2) (j : Fin 7) : sProp 𝕄 :=
  iprop(cred (tallyAt (sendCell h j c) () N) ∗ cred (tallyAt (recvCell h j c) () N)
    ∗ atPos ER (sendCell h j c) 0 ∅ 0 ∗ atPos ER (recvCell h j c) 0 ∅ 0)
def waitPost (h : Fin 2) (j : Fin 7) : sProp 𝕄 :=
  iprop(sPts (lent j) c h (sentBuf m c) ∗ rPts c h j (landedBuf m c)
    ∗ atPos ER (sendCell h j c) 1 ∅ 0 ∗ atPos ER (recvCell h j c) 1 ∅ 0)

/-- The waits for half `h`'s transfer at distance `j`, sent and received: the lent slot comes back, and the received one holds what landed. -/
theorem wp_waitPair (h : Fin 2) (j : Fin 7) (k : Body) (Q : PUnit → sProp 𝕄) :
    iprop(records m K ∗ waitPre c h j ∗ owing c 0)
      ⊢ iprop((waitPost m c h j ∗ owing c 0 -∗ wp frame (wpE (defs₀ (F := F)) 𝒱₀ (c : Thread nD τ) none) Set.univ k Q)
          -∗ wp frame (wpE (defs₀ (F := F)) 𝒱₀ (c : Thread nD τ) none) Set.univ (waitPair h j k) Q) := by
  unfold waitPre owing waitPair
  iintro ⟨#HR, ⟨Hc, Hc', Ha, Ha'⟩, ⟨%W, HO⟩⟩ Hk
  ihave HI := (records_inv m K c (some (false, h, j))) $$ HR
  ihave HI' := (records_inv m K c (some (true, h, j))) $$ HR
  iapply (Rounds.wp_wait_rest_token 𝒱₀ ER (sched m) (c : Thread nD τ) none (sm := .dma (sendS h j).sem) (κ := K (c, some (false, h, j)))
      (wpE_waitDma2_eq 𝒱₀ (c : Thread nD τ) none Set.univ) (Set.mem_univ _) () (O := 0) (W := W) (R := 0) (m := 0) (T := ∅)
      (by rw [expect_send]; exact Nat.zero_add _)) $$ [HI Hc HO Ha]
  · isplitl [HI]; · iexact HI
    isplitl [Hc]; · iexact Hc
    isplitl [HO]; · iexact HO
    isplitr; · rw [MayWait_zero]; iempintro
    iexact Ha
  iintro ⟨HO, Ha, -, Hpay⟩
  ihave Hs := (Entails.of_eq (rest_send m c h j)) $$ Hpay
  iapply (Rounds.wp_wait_rest_token 𝒱₀ ER (sched m) (c : Thread nD τ) none (sm := .dma (recvS h j).sem) (κ := K (c, some (true, h, j)))
      (wpE_waitDma2_eq 𝒱₀ (c : Thread nD τ) none Set.univ) (Set.mem_univ _) () (O := 0) (R := 0) (m := 0) (T := ∅)
      (by rw [expect_recv]; exact Nat.zero_add _)) $$ [HI' Hc' HO Ha']
  · isplitl [HI']; · iexact HI'
    isplitl [Hc']; · iexact Hc'
    isplitl [HO]; · iexact HO
    isplitr; · rw [MayWait_zero]; iempintro
    iexact Ha'
  iintro ⟨HO, Ha', -, Hpay⟩
  ihave Hd := (Entails.of_eq (rest_recv m c h j)) $$ Hpay
  iapply Hk
  unfold waitPost sendPay recvPay
  isplitl [Hs Ha Hd Ha']
  · isplitl [Hs]; · iexact Hs
    isplitl [Hd]; · iexact Hd
    isplitl [Ha]; · iexact Ha
    iexact Ha'
  iexists _; iexact HO

/-- Waiting for the listed pairs one after another. -/
def waitAll (h : Fin 2) : List (Fin 7) → Body → Body
  | [], k => k
  | j :: l, k => waitPair h j (waitAll h l k)

/-- And so for a list of distances. -/
theorem wp_waitAll (h : Fin 2) (k : Body) (Q : PUnit → sProp 𝕄) (l : List (Fin 7)) :
    iprop(records m K ∗ bigSepL l (waitPre c h) ∗ owing c 0)
      ⊢ iprop((bigSepL l (waitPost m c h) ∗ owing c 0 -∗ wp frame (wpE (defs₀ (F := F)) 𝒱₀ (c : Thread nD τ) none) Set.univ k Q)
          -∗ wp frame (wpE (defs₀ (F := F)) 𝒱₀ (c : Thread nD τ) none) Set.univ (waitAll h l k) Q) := by
  induction l with
  | nil =>
    iintro ⟨#HR, -, HO⟩ Hk
    iapply Hk
    isplitr; · rw [bigSepL_nil]; iempintro
    iexact HO
  | cons j l ih =>
    rw [bigSepL_step, bigSepL_step]
    iintro ⟨#HR, ⟨Hj, Hl⟩, HO⟩ Hk
    iapply (wp_waitPair m K c h j (waitAll h l k) Q) $$ [Hj HO]
    · isplitr; · iexact HR
      isplitl [Hj] <;> iassumption
    iintro ⟨Hj, HO⟩
    iapply ih $$ [Hl HO]
    · isplitr; · iexact HR
      isplitl [Hl] <;> iassumption
    iintro ⟨Hl, HO⟩
    iapply Hk
    isplitl [Hj Hl]
    · isplitl [Hj]; · iexact Hj
      iexact Hl
    iexact HO

end Cert.Exchange

end
-- ==== Proof.Body.lean ====
/-
  One device's body, run from what the launch hands it: the exchange's records, its positions, its tokens and credits,
  its two input blocks and its buffers. It ends with its inputs as they were, the result in its output buffer, its two
  exchange buffers whole again and every one of its cells closed at zero.
-/
module

public import proofs.«01_k».proof.Proof.Steps
public import proofs.«01_k».proof.Proof.Gen.KernelIdeal.Points

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A device's cells taken together -/

/-- Something of both halves and every distance, half by half. -/
theorem halves_split (Φ : Fin 2 × Fin 7 → sProp 𝕄) :
    bigSep Finset.univ Φ = iprop((bigSep Finset.univ fun j => Φ (0, j)) ∗ bigSep Finset.univ fun j => Φ (1, j)) := by
  rw [BI.bigSep_univ_prod, bigSep_two]

/-- Something of every cell of a device: of its barrier cell and of its transfers' cells, -/
theorem cells_own (Φ : Cell → sProp 𝕄) : bigSep Finset.univ Φ = iprop(Φ none ∗ bigSep Finset.univ fun k : Own => Φ (some k)) := by
  have hu : (Finset.univ : Finset Cell) = insert none (Finset.univ.map Function.Embedding.some) := by
    ext x; cases x <;> simp
  rw [hu, BI.bigSep_insert (by simp), BI.bigSep_map]; rfl

/-- these being its send cells and its receive cells, half by half. -/
theorem cells_split (Φ : Cell → sProp 𝕄) :
    bigSep Finset.univ Φ = iprop(Φ none
      ∗ ((bigSep Finset.univ fun j => Φ (some (false, 0, j))) ∗ bigSep Finset.univ fun j => Φ (some (false, 1, j)))
      ∗ ((bigSep Finset.univ fun j => Φ (some (true, 0, j))) ∗ bigSep Finset.univ fun j => Φ (some (true, 1, j)))) := by
  rw [cells_own, BI.bigSep_univ_prod, bigSep_univ_eq_bigSepL [false, true] (by decide) (by decide)]
  show iprop(Φ none ∗ (bigSep Finset.univ fun p => Φ (some (false, p))) ∗ bigSep Finset.univ fun p => Φ (some (true, p))) = _
  rw [halves_split fun p => Φ (some (false, p)), halves_split fun p => Φ (some (true, p))]

/-- A fact that lasts serves every member of a set. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

variable (m : (ℓ : Loc nD τ sig) → Buf (Elt F) ℓ) (ρ : Dev nD → PrngReg) (K : Dev nD × Cell → ℕ) (c : Dev nD)

/-- The device's positions in all its cells, at round `r`. -/
def positions (r : ℕ) : sProp 𝕄 := bigSep Finset.univ fun k : Cell => atPos ER (kcell (c, k)) r ∅ 0

/-- Past its only round every cell closes, its counter at zero. -/
theorem close_all : iprop(records m K ∗ positions c 1) ⊢ |={Set.univ}=> (bigSep Finset.univ fun k : Cell => semVal (kcell (c, k)) 0 : sProp 𝕄) := by
  refine (bigSep_with_persistent (Ψ := fun k : Cell => iprop(|={Set.univ}=> semVal (kcell (c, k)) 0)) fun k _ => ?_).trans (bigSep_fupd _ _)
  exact (sep_mono_left (records_inv m K c k)).trans
    (Rounds.cell_close ER (sched m) (Set.mem_univ (K (c, k))) (fun h => h) (R := 1) (duties_later m (kcell (c, k))))

/-! ## What the device starts with -/

/-- The tokens of the duties the device pays. -/
def payToks : sProp 𝕄 :=
  iprop((bigSep Finset.univ fun j => dutyTok ER (barCell (peer c j)) 0 (rev j))
    ∗ ((bigSep Finset.univ fun j => dutyTok ER (sendCell 0 j c) 0 0) ∗ bigSep Finset.univ fun j => dutyTok ER (sendCell 1 j c) 0 0)
    ∗ ((bigSep Finset.univ fun j => dutyTok ER (recvCell 0 j (peer c j)) 0 0) ∗ bigSep Finset.univ fun j => dutyTok ER (recvCell 1 j (peer c j)) 0 0))

def ghost : sProp 𝕄 := iprop(records m K ∗ positions c 0 ∗ payToks c)

/-- Its credits: its barrier's seven units and each receive cell's transfer. -/
def credits : sProp 𝕄 :=
  iprop(cred (tallyAt (barCell c) () 7)
    ∗ (bigSep Finset.univ fun j => cred (tallyAt (recvCell 0 j c) () N)) ∗ bigSep Finset.univ fun j => cred (tallyAt (recvCell 1 j c) () N))

def start : sProp 𝕄 := iprop((∃ K, ghost m K c) ∗ credits c ∗ levAts L lv)

def bufs : sProp 𝕄 := iprop((∃ f, sWhole c f) ∗ ∃ f, rWhole c f)

def Φ₀ : sProp 𝕄 := iprop(start m c ∗ bufs c)
def Φ₁ : sProp 𝕄 := iprop(bufs c ∗ bigSep Finset.univ fun k : Cell => semVal (kcell (c, k)) 0)

def s₀ : MemSt nD τ sig (Elt F) := ⟨m, fun _ => 0, ρ⟩

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m c
    | ⟨1, _⟩ => yAt m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- Owning a whole buffer at given contents is holding it at them. -/
theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop((ghost m K c ∗ credits c ∗ levAts L lv ∗ bufs c)
    ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost : sProp 𝕄 :=
  iprop(Φ₁ c ∗ (dats m ρ 0 c).owesAt () t0_0.succ ∗ stg c cc0_stg0_0 (xAt m c) ∗ stg c cc0_stg1_0 (yAt m c) ∗ stg c cc0_stg2_0 (outAt m c))

/-! ## The devices the body names -/

def sigDev : Fin 7 → Dev nD :=
  ![⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩,
    ⟨k0_dev6 c, k0_dev6_lt c⟩, ⟨k0_dev7 c, k0_dev7_lt c⟩]
/-- The transfers of the first half go to peers 5, 1, 4, 6, 2, 0, 3 in turn; -/
def sendDev₀ : Fin 7 → Dev nD :=
  ![⟨k0_dev13 c, k0_dev13_lt c⟩, ⟨k0_dev9 c, k0_dev9_lt c⟩, ⟨k0_dev12 c, k0_dev12_lt c⟩, ⟨k0_dev14 c, k0_dev14_lt c⟩, ⟨k0_dev10 c, k0_dev10_lt c⟩,
    ⟨k0_dev8 c, k0_dev8_lt c⟩, ⟨k0_dev11 c, k0_dev11_lt c⟩]
/-- and so do those of the second. -/
def sendDev₁ : Fin 7 → Dev nD :=
  ![⟨k0_dev20 c, k0_dev20_lt c⟩, ⟨k0_dev16 c, k0_dev16_lt c⟩, ⟨k0_dev19 c, k0_dev19_lt c⟩, ⟨k0_dev21 c, k0_dev21_lt c⟩, ⟨k0_dev17 c, k0_dev17_lt c⟩,
    ⟨k0_dev15 c, k0_dev15_lt c⟩, ⟨k0_dev18 c, k0_dev18_lt c⟩]

/-- The devices the body computes for its signals are the peers, -/
theorem sigDev_eq : sigDev c = peer c := by revert c; decide
/-- as are those of the first half's transfers -/
theorem sendDev₀_eq : sendDev₀ c = peer c := by revert c; decide
/-- and of the second's. -/
theorem sendDev₁_eq : sendDev₁ c = peer c := by revert c; decide

end Cert.Exchange

end
-- ==== Proof.BodyRun.lean ====
/-
  The run of one device's body, in program order: the signals, the first half's sums stored, the wait on the barrier, the
  first half sent, the second half's sums stored and sent, the first half's transfers waited for and summed at once, the
  second half's waited for and added one by one, the result stored.
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "Body" => Prog (TpuEff nD τ sig (Elt F) Λ₀ Proc.tc) PUnit

variable (m : (ℓ : Loc nD τ sig) → Buf (Elt F) ℓ) (ρ : Dev nD → PrngReg) (K : Dev nD × Cell → ℕ) (c : Dev nD)

/-! ## What the steps take, gathered for all peers at once -/

/-- The receiving buffer, at any contents, gives its fourteen slots at some. -/
theorem slots_any (f : Buf (Elt F) ((c : Thread nD τ).loc cc0_scratch1)) :
    (rWhole c f : sProp 𝕄) ⊢ iprop((bigSep Finset.univ fun j => iprop(∃ f, rPts c 0 j f)) ∗ bigSep Finset.univ fun j => iprop(∃ f, rPts c 1 j f)) := by
  rw [rWhole_slots]
  exact BIClass.sep_mono
    (bigSep_mono fun j _ => show iprop(rPts c 0 j f) ⊢ iprop(∃ f, rPts c 0 j f) from by iintro H; iexists f; iexact H)
    (bigSep_mono fun j _ => show iprop(rPts c 1 j f) ⊢ iprop(∃ f, rPts c 1 j f) from by iintro H; iexists f; iexact H)

/-- The barrier tokens and all the receiving slots are what the signals need. -/
theorem signalPre_all :
    iprop((bigSep Finset.univ fun j => dutyTok ER (barCell (peer c j)) 0 (rev j))
        ∗ (bigSep Finset.univ fun j => iprop(∃ f, rPts c 0 j f)) ∗ bigSep Finset.univ fun j => iprop(∃ f, rPts c 1 j f))
      ⊢ (bigSepL sigOrder (signalPre c) : sProp 𝕄) := by
  rw [BI.bigSep_univ_equiv Fin.revPerm (fun j => iprop(∃ f, rPts c 0 j f)), BI.bigSep_univ_equiv Fin.revPerm (fun j => iprop(∃ f, rPts c 1 j f)),
    ← bigSep_sep', ← bigSep_sep', bigSep_univ_eq_bigSepL sigOrder (by decide) (by decide)]
  exact BI.Entails.refl _

/-- What the barrier's round brings is every slot of the peers that the device writes. -/
theorem barPay_all :
    (bigSep Finset.univ fun e => barPay c e)
      = (iprop((bigSep Finset.univ fun j => iprop(∃ f, rPts (peer c j) 0 j f)) ∗ bigSep Finset.univ fun j => iprop(∃ f, rPts (peer c j) 1 j f)) : sProp 𝕄) := by
  unfold barPay; rw [bigSep_sep']

/-- A half's sending slot, the peers' slots and the tokens are what its transfers need. -/
theorem sendPre_all (h : Fin 2) :
    iprop(sPts fullShare c h (sentBuf m c) ∗ (bigSep Finset.univ fun j => iprop(∃ f, rPts (peer c j) h j f))
        ∗ (bigSep Finset.univ fun j => dutyTok ER (sendCell h j c) 0 0) ∗ bigSep Finset.univ fun j => dutyTok ER (recvCell h j (peer c j)) 0 0)
      ⊢ (bigSepL sendOrder (sendPre m c h) : sProp 𝕄) := by
  rw [sPts_lent, ← bigSep_sep', ← bigSep_sep', ← bigSep_sep', bigSep_univ_eq_bigSepL sendOrder (by decide) (by decide)]
  exact BI.Entails.refl _

/-- The credits and positions of a half's cells are what its waits need, -/
theorem waitPre_all (h : Fin 2) (l : List (Fin 7)) (hl : (Finset.univ : Finset (Fin 7)) = l.toFinset) (hn : l.Nodup) :
    iprop((bigSepL sendOrder fun j => cred (tallyAt (sendCell h j c) () N)) ∗ (bigSep Finset.univ fun j => cred (tallyAt (recvCell h j c) () N))
        ∗ (bigSep Finset.univ fun j => atPos ER (sendCell h j c) 0 ∅ 0) ∗ bigSep Finset.univ fun j => atPos ER (recvCell h j c) 0 ∅ 0)
      ⊢ (bigSepL l (waitPre c h) : sProp 𝕄) := by
  rw [← bigSep_univ_eq_bigSepL sendOrder (by decide) (by decide), ← bigSep_sep', ← bigSep_sep', ← bigSep_sep', bigSep_univ_eq_bigSepL l hl hn]
  exact BI.Entails.refl _

/-- and what the waits leave is the sending slot, the half received and the positions past the round. -/
theorem waitPost_all (h : Fin 2) (l : List (Fin 7)) (hl : (Finset.univ : Finset (Fin 7)) = l.toFinset) (hn : l.Nodup) :
    (bigSepL l (waitPost m c h) : sProp 𝕄)
      ⊢ iprop(sPts fullShare c h (sentBuf m c) ∗ rHalf c h (landedBuf m c)
        ∗ (bigSep Finset.univ fun j => atPos ER (sendCell h j c) 1 ∅ 0) ∗ bigSep Finset.univ fun j => atPos ER (recvCell h j c) 1 ∅ 0) := by
  rw [sPts_lent, rHalf_slots, ← bigSep_sep', ← bigSep_sep', ← bigSep_sep', bigSep_univ_eq_bigSepL l hl hn]
  exact BI.Entails.refl _

/-! ## The second half's pairs, each followed by the load of its slot -/

abbrev takeOrder : List (Fin 7) := [3, 0, 2, 6, 4, 1, 5]

/-- The seven receiving slots in the order in which the body reads them. -/
theorem take_split (Φ : Fin 7 → sProp 𝕄) : bigSepL takeOrder Φ = iprop(Φ 3 ∗ Φ 0 ∗ Φ 2 ∗ Φ 6 ∗ Φ 4 ∗ Φ 1 ∗ Φ 5) := rfl

/-- A pair of waits of the second half and the load of its slot, which gives what was received at that distance. -/
theorem wp_take (j : Fin 7) {hl : rB.view.LoadsAt (rR 1 j).toLoadRect} (k : Vec F S1x1x2x1024 .f32 → Body) (Q : PUnit → sProp 𝕄) :
    iprop(records m K ∗ waitPre c 1 j ∗ owing c 0)
      ⊢ iprop((waitPost m c 1 j ∗ owing c 0 -∗ wp frame (wpE (defs₀ (F := F)) 𝒱₀ (c : Thread nD τ) none) Set.univ (k (got₁ m c j)) Q)
          -∗ wp frame (wpE (defs₀ (F := F)) 𝒱₀ (c : Thread nD τ) none) Set.univ (waitPair 1 j (.op (.load rB (rR 1 j).toLoadRect hl) k)) Q) := by
  iintro Hpre Hk
  iapply (wp_waitPair m K c 1 j _ Q) $$ Hpre
  unfold waitPost
  iintro ⟨⟨Hs, Hd, Ha, Ha'⟩, HO⟩
  iapply (wp_load 𝒱₀ (c : Thread nD τ) none Set.univ (m := rB) (S := (rM 1 j).view.set) (rR_within 1 j)) $$ Hd
  iintro Hd
  iapply Hk
  isplitl [Hs Hd Ha Ha']
  · isplitl [Hs]; · iexact Hs
    isplitl [Hd]; · iexact Hd
    isplitl [Ha]; · iexact Ha
    iexact Ha'
  iexact HO

/-! ## The body -/

set_option sl_open_parts.maxParts 25 in
set_option maxHeartbeats 2000000 in
set_option maxRecDepth 8000 in
/-- The body, from what the device starts with, ends with what it is to leave. -/
theorem sound_body (Kt : PUnit → sProp 𝕄) :
    iprop(bodyPre m ρ K c ∗ (bodyPost m ρ c -∗ Kt ⟨⟩))
      ⊢ wp frame (wpE (defs₀ (F := F)) 𝒱₀ c none) Set.univ
          (cc0_body xM (Memref.isWhole_whole _) yM (Memref.isWhole_whole _) oM (Memref.isWhole_whole _)
            sB (Memref.isWhole_whole _) rB (Memref.isWhole_whole _) cc0_scratch2 cc0_scratch3) Kt := by
  simp only [cc0_body_eq_skeleton]; unfold cc0_body_skel
  sl_open_parts
  simp only [semSignalWord, semWaitWord, Prog.lift, Prog.bind_op, Prog.bind_ret, Prog.pure_eq_ret, wp_deviceId]
  unfold bodyPre ghost payToks credits bufs positions
  rw [cells_split]
  iintro ⟨⟨⟨⟨#HR, ⟨HaB, ⟨HaS0, HaS1⟩, ⟨HaR0, HaR1⟩⟩, HtB, ⟨HtS0, HtS1⟩, ⟨HtR0, HtR1⟩⟩, ⟨HcB, Hc0, Hc1⟩, #Hlev, ⟨%fs, Hs⟩, ⟨%fr, Hr⟩⟩,
    Ho, ⟨%d0, %g0, %hg0, Hx⟩, ⟨%d1, %g1, %hg1, Hy⟩, ⟨%d2, %g2, %hg2, Hout⟩⟩, Hk⟩
  have hx : g0 = xAt m c := by rw [hg0]; unfold Dat.before; rw [if_pos (fetch0_0 t0_0)]; rfl
  have hy : g1 = yAt m c := by rw [hg1]; unfold Dat.before; rw [if_pos (fetch0_1 t0_0)]; rfl
  subst hx hy
  unfold Dat.owesAt Pipeline.owesWithin
  icases Ho with ⟨%W, %hW, HO⟩
  rw [show (dats m ρ 0 c).owed t0_0.castSucc = O₀ c from rfl]
  unfold O₀
  ihave Hs := (Entails.of_eq (sWhole_slots c fs)) $$ Hs
  icases Hs with ⟨Hs0, Hs1⟩
  ihave Hr := (slots_any c fr) $$ Hr
  -- the signals
  ihave Hsig := (signalPre_all (F := F) c) $$ [HtB Hr]
  · isplitl [HtB] <;> iassumption
  iapply (wp_signalAll m K c (sigDev c) (sigDev_eq c) _ _ Kt sigOrder) $$ [Hsig HO]
  · isplitr; · iexact HR
    isplitl [Hsig]; · iexact Hsig
    unfold owing; iexists W; iexact HO
  iintro HO
  -- the first half's sums
  iapply (wp_load 𝒱₀ (c : Thread nD τ) none Set.univ (m := xM) (Finset.subset_univ _)) $$ Hx; iintro Hx
  iapply (wp_load 𝒱₀ (c : Thread nD τ) none Set.univ (m := yM) (Finset.subset_univ _)) $$ Hy; iintro Hy
  iapply (wp_load 𝒱₀ (c : Thread nD τ) none Set.univ (m := sB) (S := (sM 0).view.set) (sR_within 0)) $$ Hs0; iintro Hs0
  iapply (wp_store 𝒱₀ (c : Thread nD τ) none Set.univ (m := sB) (r := sR 0) (S := (sM 0).view.set) (Mk := Finset.univ) (sR_stores 0)) $$ Hs0; iintro Hs0
  ihave Hs0 := (Entails.of_eq (sPts_stored m c 0 fs _ (stored₀ m c))) $$ [Hs0]
  · iexact Hs0
  -- the barrier
  unfold owing
  icases HO with ⟨%W1, HO⟩
  ihave HI := (records_inv m K c none) $$ HR
  iapply (Rounds.wp_wait_rest_token 𝒱₀ ER (sched m) (c : Thread nD τ) none (sm := .reg barS) (κ := K (c, none))
      (wpE_semWait_eq 𝒱₀ (c : Thread nD τ) none Set.univ) (Set.mem_univ _) () (O := recvDebt c 0 sendOrder + (recvDebt c 1 sendOrder + 0)) (W := W1)
      (R := 0) (m := 0) (T := ∅) (by rw [expect_bar]; decide)) $$ [HI HcB HO HaB]
  · isplitl [HI]; · iexact HI
    isplitl [HcB]; · iexact HcB
    isplitl [HO]; · iexact HO
    isplitr
    · iapply (mayWait_above c (.reg barS) (n := 1) (by rw [kindOf_bar]; decide)
        (above_add (above_recvDebt (by decide) c 0 _) (above_add (above_recvDebt (by decide) c 1 _) (above_zero 1))))
      iexact Hlev
    iexact HaB
  iintro ⟨HO, HaB, -, Hpay⟩
  ihave Hpay := (Entails.of_eq ((rest_bar m c).trans (barPay_all c))) $$ Hpay
  icases Hpay with ⟨Hd0, Hd1⟩
  -- the first half sent
  ihave Hsnd := (sendPre_all m c 0) $$ [Hs0 Hd0 HtS0 HtR0]
  · isplitl [Hs0]; · iexact Hs0
    isplitl [Hd0]; · iexact Hd0
    isplitl [HtS0] <;> iassumption
  iapply (wp_sendAll m K c 0 (sendDev₀ c) (sendDev₀_eq c) (recvDebt c 1 sendOrder + 0) _ Kt sendOrder) $$ [Hsnd HO]
  · isplitr; · iexact HR
    isplitl [Hsnd]; · iexact Hsnd
    unfold owing; iexists _; iexact HO
  iintro ⟨HcS0, HO⟩
  -- the second half's sums, sent
  iapply (wp_load 𝒱₀ (c : Thread nD τ) none Set.univ (m := xM) (Finset.subset_univ _)) $$ Hx; iintro Hx
  iapply (wp_load 𝒱₀ (c : Thread nD τ) none Set.univ (m := yM) (Finset.subset_univ _)) $$ Hy; iintro Hy
  iapply (wp_load 𝒱₀ (c : Thread nD τ) none Set.univ (m := sB) (S := (sM 1).view.set) (sR_within 1)) $$ Hs1; iintro Hs1
  iapply (wp_store 𝒱₀ (c : Thread nD τ) none Set.univ (m := sB) (r := sR 1) (S := (sM 1).view.set) (Mk := Finset.univ) (sR_stores 1)) $$ Hs1; iintro Hs1
  ihave Hs1 := (Entails.of_eq (sPts_stored m c 1 fs _ (stored₁ m c))) $$ [Hs1]
  · iexact Hs1
  ihave Hsnd := (sendPre_all m c 1) $$ [Hs1 Hd1 HtS1 HtR1]
  · isplitl [Hs1]; · iexact Hs1
    isplitl [Hd1]; · iexact Hd1
    isplitl [HtS1] <;> iassumption
  iapply (wp_sendAll m K c 1 (sendDev₁ c) (sendDev₁_eq c) 0 _ Kt sendOrder) $$ [Hsnd HO]
  · isplitr; · iexact HR
    isplitl [Hsnd] <;> iassumption
  iintro ⟨HcS1, HO⟩
  -- the first half's transfers, and the seven slots loaded at once
  ihave Hw := (waitPre_all (F := F) c 0 sendOrder (by decide) (by decide)) $$ [HcS0 Hc0 HaS0 HaR0]
  · isplitl [HcS0]; · iexact HcS0
    isplitl [Hc0]; · iexact Hc0
    isplitl [HaS0]; · iexact HaS0
    iexact HaR0
  iapply (wp_waitAll m K c 0 _ Kt sendOrder) $$ [Hw HO]
  · isplitr; · iexact HR
    isplitl [Hw] <;> iassumption
  iintro ⟨Hw, HO⟩
  ihave Hw := (waitPost_all m c 0 sendOrder (by decide) (by decide)) $$ Hw
  icases Hw with ⟨Hs0, Hr0, HaS0, HaR0⟩
  iapply (wp_load 𝒱₀ (c : Thread nD τ) none Set.univ (m := rB) (S := (Finset.univ : Finset (Fin 7)).biUnion fun j => (rM 0 j).view.set) rR₀_within) $$ Hr0
  iintro Hr0
  -- the second half's
  ihave Hw := (waitPre_all (F := F) c 1 takeOrder (by decide) (by decide)) $$ [HcS1 Hc1 HaS1 HaR1]
  · isplitl [HcS1]; · iexact HcS1
    isplitl [Hc1]; · iexact Hc1
    isplitl [HaS1]; · iexact HaS1
    iexact HaR1
  ihave Hw := (Entails.of_eq (take_split _)) $$ Hw
  icases Hw with ⟨Hw3, Hw0, Hw2, Hw6, Hw4, Hw1, Hw5⟩
  iapply (wp_take m K c 3 _ Kt) $$ [Hw3 HO]
  · isplitr; · iexact HR
    isplitl [Hw3] <;> iassumption
  iintro ⟨Hw3, HO⟩
  iapply (wp_take m K c 0 _ Kt) $$ [Hw0 HO]
  · isplitr; · iexact HR
    isplitl [Hw0] <;> iassumption
  iintro ⟨Hw0, HO⟩
  iapply (wp_take m K c 2 _ Kt) $$ [Hw2 HO]
  · isplitr; · iexact HR
    isplitl [Hw2] <;> iassumption
  iintro ⟨Hw2, HO⟩
  iapply (wp_take m K c 6 _ Kt) $$ [Hw6 HO]
  · isplitr; · iexact HR
    isplitl [Hw6] <;> iassumption
  iintro ⟨Hw6, HO⟩
  iapply (wp_take m K c 4 _ Kt) $$ [Hw4 HO]
  · isplitr; · iexact HR
    isplitl [Hw4] <;> iassumption
  iintro ⟨Hw4, HO⟩
  iapply (wp_take m K c 1 _ Kt) $$ [Hw1 HO]
  · isplitr; · iexact HR
    isplitl [Hw1] <;> iassumption
  iintro ⟨Hw1, HO⟩
  iapply (wp_take m K c 5 _ Kt) $$ [Hw5 HO]
  · isplitr; · iexact HR
    isplitl [Hw5] <;> iassumption
  iintro ⟨Hw5, HO⟩
  ihave Hw := (waitPost_all m c 1 takeOrder (by decide) (by decide)) $$ [Hw3 Hw0 Hw2 Hw6 Hw4 Hw1 Hw5]
  · rw [take_split]
    isplitl [Hw3]; · iexact Hw3
    isplitl [Hw0]; · iexact Hw0
    isplitl [Hw2]; · iexact Hw2
    isplitl [Hw6]; · iexact Hw6
    isplitl [Hw4]; · iexact Hw4
    isplitl [Hw1]; · iexact Hw1
    iexact Hw5
  icases Hw with ⟨Hs1, Hr1, HaS1, HaR1⟩
  -- the result stored
  iapply (wp_load 𝒱₀ (c : Thread nD τ) none Set.univ (m := oM) (Finset.subset_univ _)) $$ Hout; iintro Hout
  iapply (wp_store 𝒱₀ (c : Thread nD τ) none Set.univ (m := oM) (r := Rect.unit (s := S2x1024) ![0, 0] S2x1024.size inb_S2x1024_S2x1024_0_0) (Mk := Finset.univ) (Finset.subset_univ _)) $$ Hout; iintro Hout
  rw [write_out, wp_ret]
  -- every cell closed
  imod (close_all m K c) $$ [HaB HaS0 HaS1 HaR0 HaR1] with Hz
  · isplitr; · iexact HR
    unfold positions
    rw [cells_split]
    isplitl [HaB]; · iexact HaB
    isplitl [HaS0 HaS1]
    · isplitl [HaS0]; · iexact HaS0
      iexact HaS1
    isplitl [HaR0]; · iexact HaR0
    iexact HaR1
  imodintro
  iapply Hk
  unfold bodyPost Φ₁ bufs Dat.owesAt Pipeline.owesWithin
  rw [show (dats m ρ 0 c).owed t0_0.succ = 0 from rfl]
  isplitl [Hs0 Hs1 Hr0 Hr1 Hz]
  · isplitl [Hs0 Hs1 Hr0 Hr1]
    · isplitl [Hs0 Hs1]
      · iexists (sentBuf m c)
        rw [sWhole_slots]
        isplitl [Hs0] <;> iassumption
      · iexists (landedBuf m c)
        rw [rWhole_slots, ← rHalf_slots, ← rHalf_slots]
        isplitl [Hr0] <;> iassumption
    iexact Hz
  isplitl [HO]
  · unfold owing
    icases HO with ⟨%W', HO⟩
    iexists W'
    isplitr; · ipureintro; exact fun _ _ => Or.inl trivial
    iexact HO
  isplitl [Hx]
  · iexists _; isplitr; · (ipureintro; rfl)
    iexact Hx
  isplitl [Hy]
  · iexists _; isplitr; · (ipureintro; rfl)
    iexact Hy
  iexists _; isplitr; swap; · iexact Hout
  ipureintro; rfl

end Cert.Exchange

end
-- ==== Proof.Launch.lean ====
/-
  The launch of the exchange. The ghost state of all devices' cells is made at once and dealt out: each device keeps its
  own positions and gets the tokens of the duties it pays; what the devices owe together is each cell's credit.
  With the body's run, every weakly fair execution of the eight devices terminates, its result as computed, its inputs
  unchanged, every semaphore at zero (`run_main`).
-/
module

public import proofs.«01_k».proof.Proof.BodyRun
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body, as the launch asks for it -/

def bodyPre' (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

set_option maxRecDepth 8000 in
/-- The one grid point of device `c` runs its body. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body xM (Memref.isWhole_whole _) yM (Memref.isWhole_whole _) oM (Memref.isWhole_whole _)
      sB (Memref.isWhole_whole _) rB (Memref.isWhole_whole _) cc0_scratch2 cc0_scratch3) (fun _ => bodyPost m ρ c)
  unfold bodyPre' Φ₀ start
  iintro ⟨⟨⟨⟨%K, Hg⟩, Hc, Hl⟩, Hb⟩, Ho, Hx, Hy, Hout⟩
  iapply (sound_body m ρ K c fun _ => bodyPost m ρ c)
  unfold bodyPre
  isplitr []
  · isplitl [Hg Hc Hl Hb]
    · isplitl [Hg]; · iexact Hg
      isplitl [Hc]; · iexact Hc
      isplitl [Hl] <;> iassumption
    isplitl [Ho]; · iexact Ho
    isplitl [Hx]; · iexact Hx
    isplitl [Hy] <;> iassumption
  · iintro H; iexact H

/-! ## The ghost state at the launch -/

set_option maxRecDepth 20000 in
/-- The transfers' semaphores are the kernel's own and none of the pipeline's. -/
theorem ownSemFacts : Pipeline.OwnSemFacts cfg0.spec osem := by decide +kernel

/-- Every window's array is held whole. -/
theorem share_eq (c : Dev nD) (w : Fin cfg0.W) : (dats m ρ 0 c).share w = fullShare := by unfold Dat.share; split <;> rfl

/-- Distinct cells, of whatever devices, are distinct. -/
theorem kcell_inj : Function.Injective (kcell : Dev nD × Cell → GSem nD τ sig) := by
  rintro ⟨c, k⟩ ⟨d, l⟩ h
  have h1 : c = d := congrArg (fun g : GSem nD τ sig => g.1.1) h
  have h2 : k = l := csem_inj (congrArg Prod.snd h)
  rw [h1, h2]

/-- Every cell of every device. -/
def allCells : Finset (GSem nD τ sig) := Finset.univ.map ⟨kcell, kcell_inj⟩

/-- The duty tokens of a device's cells: seven of its barrier cell, one of each transfer's cell. -/
def tokOf (x : Dev nD × (Fin 7 ⊕ Own)) : GSem nD τ sig × ℕ × Fin 7 := match x.2 with
  | .inl e => (kcell (x.1, none), 0, e)
  | .inr k => (kcell (x.1, some k), 0, 0)

/-- Distinct duties have distinct tokens. -/
theorem tokOf_inj : Function.Injective tokOf := by
  rintro ⟨c, a⟩ ⟨d, b⟩ h
  have hc := congrArg (fun x : GSem nD τ sig × ℕ × Fin 7 => x.1) h
  have he := congrArg (fun x : GSem nD τ sig × ℕ × Fin 7 => x.2.2) h
  rcases a with e | k <;> rcases b with e' | k'
  · have := kcell_inj hc; exact Prod.ext (Prod.mk.inj this).1 (congrArg Sum.inl he)
  · have := kcell_inj hc; exact absurd (Prod.mk.inj this).2 (by simp)
  · have := kcell_inj hc; exact absurd (Prod.mk.inj this).2 (by simp)
  · have := kcell_inj hc; exact Prod.ext (Prod.mk.inj this).1 (congrArg Sum.inr (Option.some.inj (Prod.mk.inj this).2))

def allToks : Finset (GSem nD τ sig × ℕ × Fin 7) := Finset.univ.map ⟨tokOf, tokOf_inj⟩

def u₀ : UU :=
  (Rounds.initOf (Pipeline.cells cfgs cellOf_inj) (Pipeline.launchToks cfgs cellOf_inj), Rounds.initOf allCells allToks)

/-- The tokens of device `c`'s own cells. -/
def toks (c : Dev nD) : sProp 𝕄 :=
  iprop((bigSep Finset.univ fun e => dutyTok ER (barCell c) 0 e) ∗ bigSep Finset.univ fun k : Own => dutyTok ER (kcell (c, some k)) 0 0)

/-- Of the launch's element device `c` gets its cells' round states, its positions with their reached marks, its tokens. -/
def G (c : Dev nD) : sProp 𝕄 :=
  iprop((bigSep Finset.univ fun k : Cell => roundState ER (sched m) (kcell (c, k)) 0)
    ∗ (positions c 0 ∗ bigSep Finset.univ fun k : Cell => reached ER (kcell (c, k)) 0) ∗ toks c)

def G' (c : Dev nD) : sProp 𝕄 := iprop(∃ K, ghost m K c)

/-- Something of every cell, device by device. -/
theorem over_cells (Φ : GSem nD τ sig → sProp 𝕄) :
    bigSep allCells Φ = bigSep Finset.univ fun c : Dev nD => bigSep Finset.univ fun k : Cell => Φ (kcell (c, k)) := by
  unfold allCells; rw [BI.bigSep_map, BI.bigSep_univ_prod]; rfl

/-- Every token, device by device. -/
theorem over_toks :
    bigSep allToks (fun x => (dutyTok ER x.1 x.2.1 x.2.2 : sProp 𝕄)) = bigSep Finset.univ fun c : Dev nD => toks c := by
  unfold allToks; rw [BI.bigSep_map, BI.bigSep_univ_prod]
  exact bigSep_congr fun c _ => by rw [BI.bigSep_univ_sum]; rfl

/-- The launch's element gives each device its part. -/
theorem deal : BI.own (ER (Rounds.initOf allCells allToks)) ⊢ (|==> bigSep Finset.univ (G m) : sProp 𝕄) := by
  iintro HX
  imod (Rounds.fund ER (sched m) allCells allToks) $$ HX with ⟨Hst, Hr, Hat, Htok⟩
  imodintro
  unfold G positions; simp only [bigSep_sep']
  isplitl [Hst]; · iapply (Entails.of_eq (over_cells fun g => roundState ER (sched m) g 0)); iexact Hst
  isplitl [Hat Hr]
  · isplitl [Hat]; · iapply (Entails.of_eq (over_cells fun g => atPos ER g 0 ∅ 0)); iexact Hat
    iapply (Entails.of_eq (over_cells fun g => reached ER g 0)); iexact Hr
  iapply (Entails.of_eq over_toks); iexact Htok

/-! ## All semaphores at zero -/

/-- The one semaphore that the launch holds outside the kernel is the barrier's. -/
theorem barrier_sem (c : Dev nD) : (unscopedSems0 c : sProp 𝕄) = semVal (barCell c) 0 := by
  unfold unscopedSems0; rw [bigSep_eq_bigSepL_of_eq [SemLoc.reg barS] (by decide +kernel) (by decide)]; rfl

/-- A device's cells are that one and the kernel's own. -/
theorem sems_eq (c : Dev nD) :
    (bigSep Finset.univ fun k : Cell => semVal (kcell (c, k)) 0 : sProp 𝕄)
      = iprop(unscopedSems0 c ∗ Pipeline.ownSems0 (Ix := Unit) (Name := ℕ) (U := UU) (Lvl := ℕ) (Val := Elt F) (τ := τ) osem c) := by
  rw [cells_own, barrier_sem]; rfl

/-- A device's cells are opened: each one's invariant is allocated. -/
theorem open_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (sched m) κ (kcell (c, k))))
          ∗ (positions c 0 ∗ bigSep Finset.univ fun k : Cell => reached ER (kcell (c, k)) 0) ∗ toks c) := by
  unfold G
  iintro ⟨Hos, Hus, Hst, Hat, Htok⟩
  imod (show iprop((bigSep Finset.univ fun k : Cell => semVal (kcell (c, k)) 0) ∗ bigSep Finset.univ fun k : Cell => roundState ER (sched m) (kcell (c, k)) 0)
      ⊢ (|={Set.univ}=> bigSep Finset.univ fun k : Cell => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hos Hus Hst] with Hinv
  · rw [sems_eq]
    isplitr [Hst]
    · isplitl [Hus] <;> iassumption
    · iexact Hst
  imodintro
  isplitl [Hinv]; · iexact Hinv
  isplitl [Hat]; · iexact Hat
  iexact Htok

/-! ## The tokens dealt out to those who pay -/

/-- Going on to peer `j`, for all devices and peers at once. -/
def around : Dev nD × Fin 7 ≃ Dev nD × Fin 7 :=
  ⟨fun x => (peer x.1 x.2, x.2), fun x => (peer x.1 (rev x.2), x.2), fun x => Prod.ext (peer_peer_rev x.1 x.2) rfl,
    fun x => Prod.ext (peer_rev_peer x.1 x.2) rfl⟩

/-- What is had of every device and every `j` is had of every device's peer `j`. -/
theorem shifted (Φ : Dev nD → Fin 7 → sProp 𝕄) :
    (bigSep Finset.univ fun c => bigSep Finset.univ fun j => Φ c j) = bigSep Finset.univ fun c => bigSep Finset.univ fun j => Φ (peer c j) j := by
  rw [← BI.bigSep_univ_prod fun x : Dev nD × Fin 7 => Φ x.1 x.2, BI.bigSep_univ_equiv around, BI.bigSep_univ_prod]; rfl

/-- Something of every transfer's cell: of the send cells and the receive cells, half by half. -/
theorem own_split (Φ : Own → sProp 𝕄) :
    bigSep Finset.univ Φ = iprop(((bigSep Finset.univ fun j => Φ (false, 0, j)) ∗ bigSep Finset.univ fun j => Φ (false, 1, j))
      ∗ ((bigSep Finset.univ fun j => Φ (true, 0, j)) ∗ bigSep Finset.univ fun j => Φ (true, 1, j))) := by
  rw [BI.bigSep_univ_prod, bigSep_univ_eq_bigSepL [false, true] (by decide) (by decide)]
  show iprop((bigSep Finset.univ fun p => Φ (false, p)) ∗ bigSep Finset.univ fun p => Φ (true, p)) = _
  rw [halves_split fun p => Φ (false, p), halves_split fun p => Φ (true, p)]

/-- All cells' tokens together are the tokens of what all devices pay. -/
theorem toks_shifted : (bigSep Finset.univ fun c : Dev nD => (toks c : sProp 𝕄)) = bigSep Finset.univ fun c : Dev nD => payToks c := by
  unfold toks payToks
  simp only [own_split, bigSep_sep']
  rw [bigSep_congr (s := Finset.univ) (fun (c : Dev nD) _ => BI.bigSep_univ_equiv Fin.revPerm fun e => (dutyTok ER (barCell c) 0 e : sProp 𝕄)),
    shifted fun c j => dutyTok ER (barCell c) 0 (Fin.revPerm j), shifted fun c j => dutyTok ER (kcell (c, some (true, 0, j))) 0 0,
    shifted fun c j => dutyTok ER (kcell (c, some (true, 1, j))) 0 0]
  rfl

/-- With all cells open, every device has the records, its positions and the tokens of what it pays. -/
theorem hand_out :
    (bigSep Finset.univ fun c : Dev nD => iprop((bigSep Finset.univ fun k : Cell => iprop(∃ κ : ℕ, cellInv ER (sched m) κ (kcell (c, k))))
          ∗ (positions c 0 ∗ bigSep Finset.univ fun k : Cell => reached ER (kcell (c, k)) 0) ∗ toks c) : sProp 𝕄)
      ⊢ bigSep Finset.univ (G' m) := by
  rw [bigSep_sep', bigSep_sep', bigSep_sep', ← BI.bigSep_univ_prod (fun ck : Dev nD × Cell => iprop(∃ κ : ℕ, cellInv ER (sched m) κ (kcell ck))),
    ← BI.bigSep_univ_prod (fun ck : Dev nD × Cell => (reached ER (kcell ck) 0 : sProp 𝕄)), toks_shifted]
  iintro ⟨HI, ⟨Hat, #HR⟩, Htok⟩
  ihave HK := (BI.bigSep_exists_pi Finset.univ (fun (ck : Dev nD × Cell) (κ : ℕ) => (cellInv ER (sched m) κ (kcell ck) : sProp 𝕄))) $$ HI
  icases HK with ⟨%K, #HI⟩
  iapply (bigSep_with_persistent (R := records m K) (Φ := fun c => iprop(positions c 0 ∗ payToks c)) fun c _ =>
    show iprop(records m K ∗ positions c 0 ∗ payToks c) ⊢ G' m c from by
      unfold G' ghost; iintro H; iexists K; iexact H)
  rw [bigSep_sep']
  isplitr
  · unfold records; isplitr; · iexact HI
    iexact HR
  · isplitl [Hat] <;> iassumption

/-- All devices' cells opened and the tokens handed out. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => open_cells m c).trans (bigSep_fupd _ _)).trans (BI.fupd_mono (hand_out m))

/-! ## The credit of a cell is what the devices owe it together -/

/-- How many of the listed `j` have their cell `f j` at `ck`. -/
def hits (f : Fin 7 → Dev nD × Cell) (l : List (Fin 7)) (ck : Dev nD × Cell) : ℕ := (l.map fun j => if ck = f j then 1 else 0).sum

/-- What a list of equal debts comes to at one cell. -/
theorem tallies_at (f : Fin 7 → Dev nD × Cell) (n : ℕ) (ck : Dev nD × Cell) : (l : List (Fin 7)) →
    (l.map fun j => (tallyAt (kcell (f j)) () n : CellTallies nD τ sig Unit)).sum (kcell ck) () = hits f l ck * n
  | [] => by unfold hits; simp
  | j :: l => by
    have ih := tallies_at f n ck l
    unfold hits at ih ⊢
    rw [List.map_cons, List.sum_cons, List.map_cons, List.sum_cons, Pi.add_apply, Finsupp.add_apply, ih, tallyAt_apply, Nat.add_mul]
    congr 1
    by_cases h : ck = f j
    · rw [if_pos ⟨congrArg kcell h, rfl⟩, if_pos h, Nat.one_mul]
    · rw [if_neg fun h' => h (kcell_inj h'.1), if_neg h, Nat.zero_mul]

/-- What one device owes a cell at first, -/
theorem owed_at (d : Dev nD) (ck : Dev nD × Cell) :
    O₀ d (kcell ck) () = hits (fun j => (peer d j, none)) sigOrder ck * 1
      + (hits (fun j => (peer d j, some (true, 0, j))) sendOrder ck * N + (hits (fun j => (peer d j, some (true, 1, j))) sendOrder ck * N + 0)) := by
  unfold O₀ barDebt recvDebt
  rw [Pi.add_apply, Finsupp.add_apply, Pi.add_apply, Finsupp.add_apply, Pi.add_apply, Finsupp.add_apply,
    ← tallies_at, ← tallies_at, ← tallies_at]
  rfl

/-- and all devices together. -/
theorem owed_sum (ck : Dev nD × Cell) :
    (∑ d : Dev nD, O₀ d (kcell ck) ()) = (∑ d : Dev nD, hits (fun j => (peer d j, none)) sigOrder ck)
      + ((∑ d : Dev nD, hits (fun j => (peer d j, some (true, 0, j))) sendOrder ck)
        + ∑ d : Dev nD, hits (fun j => (peer d j, some (true, 1, j))) sendOrder ck) * N := by
  simp only [owed_at, Finset.sum_add_distrib, ← Finset.sum_mul, Nat.mul_one, Nat.add_zero, Nat.add_mul, Finset.sum_const_zero]

set_option maxRecDepth 20000 in
/-- A barrier cell is owed seven single units and no transfer; -/
theorem bar_hits (c : Dev nD) : (∑ d : Dev nD, hits (fun j => (peer d j, none)) sigOrder (c, none)) = 7
    ∧ (∑ d : Dev nD, hits (fun j => (peer d j, some (true, 0, j))) sendOrder (c, none))
        + (∑ d : Dev nD, hits (fun j => (peer d j, some (true, 1, j))) sendOrder (c, none)) = 0 := by
  revert c; decide +kernel
set_option maxRecDepth 20000 in
/-- a receive cell one transfer and no single unit. -/
theorem recv_hits (c : Dev nD) (h : Fin 2) (j : Fin 7) : (∑ d : Dev nD, hits (fun j => (peer d j, none)) sigOrder (c, some (true, h, j))) = 0
    ∧ (∑ d : Dev nD, hits (fun j => (peer d j, some (true, 0, j))) sendOrder (c, some (true, h, j)))
        + (∑ d : Dev nD, hits (fun j => (peer d j, some (true, 1, j))) sendOrder (c, some (true, h, j))) = 1 := by
  revert c h j; decide +kernel

/-- A cell's credit at the launch is what the devices owe it together: -/
theorem credit_of (ck : Dev nD × Cell) (n : ℕ) (h : (∑ d : Dev nD, O₀ d (kcell ck) ()) = n) :
    tallyOn (kcell ck) (launchCredit (Pipeline.owing O₀) 0 (kcell ck)) = (tallyAt (kcell ck) () n : CellTallies nD τ sig Unit) := by
  unfold tallyAt; refine congrArg _ (Finsupp.ext fun u => ?_); cases u
  rw [Pipeline.launchCredit_owing, Finsupp.single_eq_same, h]

/-- seven units of a barrier cell, -/
theorem credit_bar (c : Dev nD) :
    tallyOn (kcell (c, none)) (launchCredit (Pipeline.owing O₀) 0 (kcell (c, none))) = (tallyAt (barCell c) () 7 : CellTallies nD τ sig Unit) :=
  credit_of (c, none) 7 (by rw [owed_sum, (bar_hits c).1, (bar_hits c).2, Nat.zero_mul])
/-- a transfer's of a receive cell. -/
theorem credit_recv (c : Dev nD) (h : Fin 2) (j : Fin 7) :
    tallyOn (kcell (c, some (true, h, j))) (launchCredit (Pipeline.owing O₀) 0 (kcell (c, some (true, h, j))))
      = (tallyAt (recvCell h j c) () N : CellTallies nD τ sig Unit) :=
  credit_of (c, some (true, h, j)) N (by rw [owed_sum, (recv_hits c h j).1, (recv_hits c h j).2, Nat.one_mul, Nat.zero_add])

/-- Of three things the first and the third. -/
theorem without_second (A B C : sProp 𝕄) : iprop(A ∗ B ∗ C) ⊢ iprop(A ∗ C) := by
  iintro ⟨HA, -, HC⟩
  isplitl [HA] <;> iassumption

/-- A device's credit at the launch gives the credits its body starts with. -/
theorem credits_intro (c : Dev nD) : (Pipeline.launchCred O₀ c : sProp 𝕄) ⊢ credits c := by
  unfold Pipeline.launchCred credits
  rw [BI.bigSep_sdiff_split (Finset.subset_univ (Finset.univ.map ⟨csem, csem_inj⟩)), BI.bigSep_map]
  refine BI.Entails.trans (show _ ⊢ (bigSep Finset.univ fun k : Cell => cred (tallyOn (kcell (c, k)) (launchCredit (Pipeline.owing O₀) 0 (kcell (c, k)))) : sProp 𝕄) from
    BI.Laws.sep_elim_left) ?_
  rw [cells_split]
  simp only [credit_bar, credit_recv]
  exact without_second _ _ _

/-! ## The launch's side conditions -/

/-- The third argument, which no window reads, as it was. -/
def keeps (c : Dev nD) : sProp 𝕄 := ((c : Thread nD τ).loc main_arg2) ↦{fullShare} m ((c : Thread nD τ).loc main_arg2)

/-- What the launch hands a device gives its start and the third argument, -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ keeps m c) := by
  unfold G' start
  rw [Pipeline.unscopedRestP_none, show (Pipeline.unscopedRest cfg0.spec c (fun b => m ((c : Thread nD τ).loc b)) : sProp 𝕄) = keeps m c from
    unscopedRest0_eq c _]
  iintro ⟨Hk, Hlev, Hcr, -, HG⟩
  imodintro
  isplitr [Hk]
  · isplitl [HG]; · iexact HG
    isplitl [Hcr]; · iapply (credits_intro (F := F) c); iexact Hcr
    iexact Hlev
  · iexact Hk

/-- the start with the kernel's buffers what the body begins from, -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs
  iintro ⟨Hs, -, Hr⟩
  isplitl [Hs] <;> iassumption

/-- and what the body ends with the semaphores and buffers that the launch takes back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ bufs
  rw [sems_eq]
  iintro ⟨Hr, Hu, Ho⟩
  isplitl [Hu]; · iexact Hu
  isplitl [Ho] <;> iassumption

/-- A semaphore of no cell is recognised as none. -/
theorem kindOf_none {s : SemLoc sig} (h : ∀ k, csem k ≠ s) : kindOf s = none := by
  rcases hk : kindOf s with _ | k
  · rfl
  · exact absurd (csem_of_kindOf hk) (h k)

set_option maxRecDepth 20000 in
/-- The pipeline's own semaphores are such. -/
theorem stage_kind (w : Fin cfg0.W) (s : Fin (cfg0.win w).nbuf) : kindOf (.dma ((cfg0.win w).sem s)) = none :=
  kindOf_none (by revert w s; decide +kernel)

/-- The pipeline's waits are allowed, being below all that the device owes. -/
theorem waits (c : Dev nD) : (levAts L lv : sProp 𝕄) ⊢ Pipeline.cellsWaits cfgs (dats m ρ) () 0 c :=
  Pipeline.cellsWaits_intro cfgs (dats m ρ) () 0 c fun w s t =>
    mayWait_above c _ (n := 0) (by rw [stage_kind]; exact le_rfl) (by
      rcases t with ⟨_ | _, ht⟩
      · exact above_O₀ c
      · exact above_zero 0)

/-! ## The run -/

/-- A window's array after the run. -/
def finalA (c : Dev nD) (w : Fin cfg0.W) : Buf (Elt F) ((cfg0.win w).arr.view.loc (c : Thread nD τ)) := (dats m ρ 0 c).arrAt w cfg0.N

/-- What the run leaves: every window's array as computed, the third argument as it was. -/
def Final (r : PUnit × MemSt nD τ sig (Elt F)) : Prop :=
  ∀ c : Dev nD, (∀ w : Fin cfg0.W, r.2.mem ((cfg0.win w).arr.view.loc (c : Thread nD τ)) = finalA m ρ c w)
    ∧ r.2.mem ((c : Thread nD τ).loc main_arg2) = m ((c : Thread nD τ).loc main_arg2)

set_option maxRecDepth 8000 in
/-- From any memory with zero counters, over any floats, every weakly fair execution of the eight devices terminates,
    leaving each device's arrays as computed and every semaphore at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := glob m)
    (hA := fun _ _ => rfl) (hpf := fun _ k => k.elim0)
    (X := start m) (Y := fun c => unscopedSems0 c) (Z := keeps m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg2) = m ((c : Thread nD τ).loc main_arg2))
    (hY := fun c s' => by
      unfold keeps
      iintro ⟨Hu, Hk, HSI⟩
      icombine HSI Hk gives %hk
      imod (Pipeline.unscopedSems0_read (X := unscopedSems0 c) (c := c) fupd_intro s') $$ [Hu HSI] with ⟨%hu, HSI⟩
      · isplitl [Hu] <;> iassumption
      imodintro
      isplitr; · ipureintro; exact ⟨hu, Buf.eq_of_forall_mem_univ hk⟩
      iexact HSI)
    (hQ := fun _ h hs => ⟨fun c => ⟨(h c).1, (h c).2.2.2⟩, sem_eq_zero hs fun c => (h c).2.2.1⟩)

end Cert.Exchange

end
-- ==== Proof.RowMath.lean ====
/-
  One row's normalisation, over the extended reals. The kernel takes the variance as the mean of the squares less the
  square of the mean and multiplies by the reciprocal square root; the reference takes the mean of the squared
  deviations and divides by the square root. On a row of finite entries the two agree (`kernelRow_eq`).
-/
module

public import Idealize.ShloMosaic.PureOps.Ideal.Laws
public import Idealize.ShloMosaic.Lib.ValueIdx
public import Mathlib.Tactic.FieldSimp
public import Mathlib.Tactic.Positivity
public import Mathlib.Tactic.Ring

@[expose] public section

noncomputable section

namespace Cert.RowMath

open Idealize.ShloMosaic

/-- The words of the two programs' constants: 1/1024, 1024, 1 and the added positive number. -/
abbrev recip : EReal := Ideal.ofBits .f32 0x3A800000#32
abbrev count : EReal := Ideal.ofBits .f32 0x44800000#32
abbrev unit : EReal := Ideal.ofBits .f32 0x3F800000#32
abbrev eps : EReal := Ideal.ofBits .f32 0x3727C5AC#32

/-- The real numbers that these words and the zero word are. -/
theorem zero_eq : Ideal.ofBits .f32 0x00000000#32 = 0 := by
  simp [Ideal.ofBits, Ideal.ieee]
theorem recip_eq : recip = ((1 / 1024 : ℝ) : EReal) := by
  simp [Ideal.ofBits, Ideal.ieee, -EReal.coe_mul]; norm_num
theorem count_eq : count = ((1024 : ℝ) : EReal) := by
  simp [Ideal.ofBits, Ideal.ieee, -EReal.coe_mul]; norm_num
theorem unit_eq : unit = ((1 : ℝ) : EReal) := by
  simp [Ideal.ofBits, Ideal.ieee, -EReal.coe_mul]; norm_num
theorem eps_pos : ∃ e : ℝ, 0 < e ∧ eps = (e : EReal) := by
  refine ⟨10995116 * 2 ^ (-40 : ℤ), by positivity, ?_⟩
  simp [Ideal.ofBits, Ideal.ieee, -EReal.coe_mul]

/-- A sum of real numbers, taken over the extended reals. -/
theorem coe_sum {ι : Type} (s : Finset ι) (f : ι → ℝ) : (∑ i ∈ s, (f i : EReal)) = ((∑ i ∈ s, f i : ℝ) : EReal) := by
  classical
  induction s using Finset.induction_on with
  | empty => rfl
  | insert a s ha ih => rw [Finset.sum_insert ha, Finset.sum_insert ha, ih, EReal.coe_add]

/-! ## The two programs' normalised row -/

def kernelMean (X : Fin 1024 → EReal) : EReal := (∑ n, X n) * recip
def kernelVar (X : Fin 1024 → EReal) : EReal := (∑ n, X n * X n) * recip - kernelMean X * kernelMean X
/-- Entry `n` of the row normalised as the kernel does it, -/
def kernelRow (X : Fin 1024 → EReal) (n : Fin 1024) : EReal := (X n - kernelMean X) * Ideal.rsqrt (kernelVar X + eps)

def refMean (X : Fin 1024 → EReal) : EReal := Ideal.div (∑ n, X n) count
def refVar (X : Fin 1024 → EReal) : EReal := Ideal.div (∑ n, (X n - refMean X) * (X n - refMean X)) count
/-- and as the reference does. -/
def refRow (X : Fin 1024 → EReal) (n : Fin 1024) : EReal := (X n - refMean X) * Ideal.div unit (Ideal.sqrt (refVar X + eps))

/-! ## Their agreement on finite rows -/

/-- The mean of the squares less the square of the mean is the mean of the squared deviations. -/
theorem variance (x : Fin 1024 → ℝ) :
    (∑ n, x n * x n) * (1 / 1024) - (∑ n, x n) * (1 / 1024) * ((∑ n, x n) * (1 / 1024))
      = (∑ n, (x n - (∑ n, x n) * (1 / 1024)) * (x n - (∑ n, x n) * (1 / 1024))) * (1 / 1024) := by
  generalize hs : (∑ n, x n) = s
  have h : (∑ n, (x n - s * (1 / 1024)) * (x n - s * (1 / 1024)))
      = (∑ n, x n * x n) - 2 * (s * (1 / 1024)) * (∑ n, x n) + 1024 * ((s * (1 / 1024)) * (s * (1 / 1024))) := by
    rw [Finset.mul_sum, ← Finset.sum_sub_distrib,
      show (1024 : ℝ) * ((s * (1 / 1024)) * (s * (1 / 1024))) = ∑ _n : Fin 1024, (s * (1 / 1024)) * (s * (1 / 1024)) by simp,
      ← Finset.sum_add_distrib]
    exact Finset.sum_congr rfl fun n _ => by ring
  rw [h, hs]; ring

variable (x : Fin 1024 → ℝ)

/-- Of a row of real numbers, the kernel's mean is the real one, -/
theorem kernelMean_coe : kernelMean (fun n => (x n : EReal)) = (((∑ n, x n) * (1 / 1024) : ℝ) : EReal) := by
  unfold kernelMean; rw [recip_eq, coe_sum, ← EReal.coe_mul]

/-- and so is the reference's. -/
theorem refMean_coe : refMean (fun n => (x n : EReal)) = (((∑ n, x n) * (1 / 1024) : ℝ) : EReal) := by
  unfold refMean; rw [count_eq, Ideal.div_coe (by norm_num), coe_sum, ← EReal.coe_mul]

/-- The mean of the squared deviations of a finite row. -/
def dev : ℝ := (∑ n, (x n - (∑ n, x n) * (1 / 1024)) * (x n - (∑ n, x n) * (1 / 1024))) * (1 / 1024)

/-- The mean of the squared deviations is not negative. -/
theorem dev_nonneg : 0 ≤ dev x := mul_nonneg (Finset.sum_nonneg fun n _ => mul_self_nonneg _) (by norm_num)

/-- It is the kernel's variance of the row, -/
theorem kernelVar_coe : kernelVar (fun n => (x n : EReal)) = ((dev x : ℝ) : EReal) := by
  unfold kernelVar dev
  rw [kernelMean_coe, ← variance, recip_eq]
  simp only [← EReal.coe_mul, coe_sum, ← EReal.coe_sub]

/-- and the reference's. -/
theorem refVar_coe : refVar (fun n => (x n : EReal)) = ((dev x : ℝ) : EReal) := by
  unfold refVar dev
  rw [refMean_coe, count_eq, Ideal.div_coe (by norm_num)]
  simp only [← EReal.coe_mul, ← EReal.coe_sub, coe_sum]

/-- On a row of finite entries the kernel's normalisation is the reference's. -/
theorem kernelRow_eq {X : Fin 1024 → EReal} (hX : ∀ n, ∃ r : ℝ, X n = r) (n : Fin 1024) : kernelRow X n = refRow X n := by
  choose x hx using hX
  obtain rfl : X = fun n => (x n : EReal) := funext hx
  obtain ⟨e, he, hee⟩ := eps_pos
  have hv : 0 < dev x + e := add_pos_of_nonneg_of_pos (dev_nonneg x) he
  have hs : Real.sqrt (dev x + e) ≠ 0 := (Real.sqrt_pos.mpr hv).ne'
  unfold kernelRow refRow
  rw [kernelMean_coe, refMean_coe, kernelVar_coe, refVar_coe, hee, ← EReal.coe_add, Ideal.rsqrt_coe, if_neg hv.le.not_gt, if_neg hv.ne',
    Ideal.sqrt_coe, if_neg hv.le.not_gt, unit_eq, Ideal.div_coe hs, ← EReal.coe_mul, one_mul, one_div (Real.sqrt (dev x + e))]

end Cert.RowMath

end
-- ==== Proof.KernelValue.lean ====
/-
  What a device stores, over the extended reals: at every index the sum, over all devices and both halves of their rows,
  of the partial sums there (`outAt_eq`); and a partial sum is the sum over the half's rows of the gradients' terms
  (`part_eq`).
-/
module

public import proofs.«01_k».proof.Proof.Slots
public import proofs.«01_k».proof.Proof.RowMath
public import Idealize.ShloMosaic.Lib.ValueLayout
public import Idealize.ShloMosaic.Lib.ValueLayoutCasts
public import Idealize.ShloMosaic.Lib.Pipeline.Value

@[expose] public section

noncomputable section

namespace Cert.Exchange

open Cert.KernelIdeal Cert.KernelIdeal.Gen

open Idealize.ShloMosaic
open Idealize.ShloMosaic.TcCoe
open Idealize.ShloMosaic.ValueIdx
open Cert.RowMath

/-! ## Sums over an axis and pairs of rows, at an index -/

/-- The sum over the columns of an array, at row `r`. -/
theorem sum_cols {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ n : Fin b, v (ix2 r n) :=
  (Ideal.multiReduction_add_single v _ h hφ hacc (ix1 r)).trans
    (Finset.sum_congr rfl fun n _ => congrArg v (funext fun d => Fin.ext (by fin_cases d <;> rfl)))

/-- The sum over its rows, at column `n`. -/
theorem sum_rows {a b : ℕ} (v : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (n : Fin b) :
    multiReduction .add [0] ⟨1, ![b]⟩ v 0x00000000#32 h hφ hacc (ix1 n) = ∑ r : Fin a, v (ix2 r n) :=
  (Ideal.multiReduction_add_single v _ h hφ hacc (ix1 n)).trans
    (Finset.sum_congr rfl fun n _ => congrArg v (funext fun d => Fin.ext (by fin_cases d <;> rfl)))

/-- The sum over the leading axis of a rank-3 array. -/
theorem sum_lead {a b c : ℕ} (v : FVec Ideal ⟨3, ![a, b, c]⟩ .f32) (h : (⟨3, ![a, b, c]⟩ : Shape).Reduces [0] ⟨2, ![b, c]⟩)
    (hφ : FKind.Formats .f32) (hacc : (0x00000000#32 : BitVec 32) = FKind.add.neutral .f32 hφ) (q : Fin b) (n : Fin c) :
    multiReduction .add [0] ⟨2, ![b, c]⟩ v 0x00000000#32 h hφ hacc (ix2 q n) = ∑ j : Fin a, v (ix3 j q n) :=
  (Ideal.multiReduction_add_single v _ h hφ hacc (ix2 q n)).trans
    (Finset.sum_congr rfl fun n _ => congrArg v (funext fun d => Fin.ext (by fin_cases d <;> rfl)))

/-- A column spread over the columns of a wider array. -/
theorem spread {α : Type} {a b : ℕ} (v : (⟨2, ![a, 1]⟩ : Shape).Idx → α) (h : (⟨2, ![a, 1]⟩ : Shape).Broadcasts ⟨2, ![a, b]⟩) (r : Fin a) (n : Fin b) :
    broadcastTo ⟨2, ![a, b]⟩ v h (ix2 r n) = v (ix2 r (0 : Fin 1)) :=
  broadcastTo_apply v h (ix2 r n) (ix2 r (0 : Fin 1)) fun ax => by
    fin_cases ax
    · show r.val = if a = 1 then 0 else r.val
      by_cases ha : a = 1
      · rw [if_pos ha]; have := r.isLt; omega
      · rw [if_neg ha]
    · rfl

/-- Two rows, one below the other. -/
theorem stack_top {α : Type} {b : ℕ} (u v : (⟨2, ![1, b]⟩ : Shape).Idx → α)
    (h : Shape.Concatenates [⟨2, ![1, b]⟩, ⟨2, ![1, b]⟩] ⟨2, ![2, b]⟩ 0) (n : Fin b) :
    concatenate ⟨2, ![2, b]⟩ 0 [⟨_, u⟩, ⟨_, v⟩] h (ix2 (0 : Fin 2) n) = u (ix2 (0 : Fin 1) n) :=
  concatenate_pair_apply_left 0 u v h (ix2 (0 : Fin 2) n) rfl (ix2 (0 : Fin 1) n) fun d => by fin_cases d <;> rfl
theorem stack_bottom {α : Type} {b : ℕ} (u v : (⟨2, ![1, b]⟩ : Shape).Idx → α)
    (h : Shape.Concatenates [⟨2, ![1, b]⟩, ⟨2, ![1, b]⟩] ⟨2, ![2, b]⟩ 0) (n : Fin b) :
    concatenate ⟨2, ![2, b]⟩ 0 [⟨_, u⟩, ⟨_, v⟩] h (ix2 (1 : Fin 2) n) = v (ix2 (0 : Fin 1) n) :=
  concatenate_pair_apply_right 0 u v h (ix2 (1 : Fin 2) n) rfl rfl (ix2 (0 : Fin 1) n) (by intro d hd; fin_cases d <;> first | rfl | exact absurd rfl hd) rfl

/-! ## A half's partial sums -/

/-- One row's term of result row `q`: of the scale's gradient the product with the normalised entry, of the shift's the
    entry alone. -/
def term (q : Fin 2) (y z : EReal) : EReal := if q = 0 then y * z else y

/-- The column of a half's row sums, at row `r`. -/
theorem col_sum (v : FVec Ideal S512x1024 .f32) (r : Fin 512) :
    shapeCast S512x1 (multiReduction .add [1] S512 v 0x00000000#32 reduces_S512x1024_S512 (.inl rfl) rfl) shapeCasts_S512_S512x1 (ix2 r (0 : Fin 1))
      = ∑ n : Fin 1024, v (ix2 r n) :=
  (shapeCast_a_a1_apply _ _ r (0 : Fin 1)).trans (sum_cols v _ _ _ r)

/-- The partial sums of any 512 rows. -/
theorem pay3_apply (x y : Vec Ideal S512x1024 .f32) (q : Fin 2) (n : Fin 1024) :
    k0_pay3 (F := Ideal) (k0_pay2 x) y (ix2 q n) = ∑ r : Fin 512, term q (y (ix2 r n)) (kernelRow (fun n => x (ix2 r n)) n) := by
  have hx : shapeCast S512x1024 x shapeCasts_S512x1024_S512x1024 = x := shapeCast_self x _
  have hy : shapeCast S512x1024 y shapeCasts_S512x1024_S512x1024 = y := shapeCast_self y _
  unfold k0_pay3 k0_pay2
  dsimp only
  rw [hx, hy]
  fin_cases q
  · refine (stack_top _ _ _ n).trans ((shapeCast_a_1a_apply _ _ 0 n).trans ((sum_rows _ _ _ _ n).trans (Finset.sum_congr rfl fun r _ => ?_)))
    have hM := congrArg (· * recip) (col_sum x r)
    have hV := congrArg (fun v => Ideal.rsqrt (v + eps))
      (congrArg₂ (· - ·) (congrArg (· * recip) (col_sum (mulf x x) r)) (congrArg₂ (· * ·) hM hM))
    exact congrArg (y (ix2 r n) * ·)
      (congrArg₂ (· * ·) (congrArg (x (ix2 r n) - ·) ((spread _ _ r n).trans hM)) ((spread _ _ r n).trans hV))
  · exact (stack_bottom _ _ _ n).trans ((shapeCast_a_1a_apply _ _ 0 n).trans (sum_rows _ _ _ _ n))

variable (m : (ℓ : Loc nD τ sig) → Buf (Elt Ideal) ℓ)

/-- Row `r` of half `h` is row `512 h + r` of the device's block. -/
def halfRow (h : Fin 2) (r : Fin 512) : Fin 1024 := ⟨512 * h.val + r.val, by omega⟩

/-- Where an index of a half is in the block. -/
theorem xR_emb (h : Fin 2) (r : Fin 512) (n : Fin 1024) : (xR h).emb (ix2 r n) = (ix2 (halfRow h r) n : S1024x1024.Idx) := by
  funext a; refine Fin.ext ?_
  rw [ValueKit.rect_emb_unit_val]
  fin_cases a
  · rfl
  · show 0 + n.val = n.val; omega

/-- A device's blocks are its whole arrays. -/
theorem xAt_eq (c : Dev nD) : xAt m c = m ((c : Thread nD τ).loc main_arg0) :=
  funext fun i => congrArg (m ((c : Thread nD τ).loc main_arg0)) (funext fun a => Fin.ext (win0_0.rect_emb_val_of_index_zero (0 : Fin 1) a rfl i))
theorem yAt_eq (c : Dev nD) : yAt m c = m ((c : Thread nD τ).loc main_arg1) :=
  funext fun i => congrArg (m ((c : Thread nD τ).loc main_arg1)) (funext fun a => Fin.ext (win0_1.rect_emb_val_of_index_zero (0 : Fin 1) a rfl i))

/-- A half of `x` at an index is the block at the half's row, -/
theorem xHalf_apply (c : Dev nD) (h : Fin 2) (r : Fin 512) (n : Fin 1024) : xHalf m c h (ix2 r n) = xAt m c (ix2 (halfRow h r) n) := by
  show xAt m c ((xR h).emb (ix2 r n)) = _
  rw [xR_emb]
/-- and so is a half of `dy`. -/
theorem yHalf_apply (c : Dev nD) (h : Fin 2) (r : Fin 512) (n : Fin 1024) : yHalf m c h (ix2 r n) = yAt m c (ix2 (halfRow h r) n) := by
  show yAt m c ((xR h).emb (ix2 r n)) = _
  rw [xR_emb]

/-- The partial sums of half `h` of device `c`'s rows. -/
theorem part_eq (c : Dev nD) (h : Fin 2) (q : Fin 2) (n : Fin 1024) :
    part m c h (ix2 q n)
      = ∑ r : Fin 512, term q (yAt m c (ix2 (halfRow h r) n)) (kernelRow (fun n => xAt m c (ix2 (halfRow h r) n)) n) := by
  refine (pay3_apply _ _ q n).trans (Finset.sum_congr rfl fun r _ => ?_)
  simp only [xHalf_apply, yHalf_apply]

/-! ## The sum over the devices -/

/-- A sum over all devices is one device's term and its peers'. -/
theorem sum_peers (P : Dev nD → EReal) (c : Dev nD) : (∑ d : Dev nD, P d) = P c + ∑ j : Fin 7, P (peer c (rev j)) := by
  rw [← Equiv.sum_comp (Equiv.addLeft c) P, Fin.sum_univ_succ]
  congr 1
  · show P (c + 0) = P c; rw [add_zero]
  · exact (Equiv.sum_comp Fin.revPerm fun j => P (peer c j)).symm

/-- What is received at distance `j` is the partial sums of the device from which it comes, of the first half -/
theorem got₀_apply (c : Dev nD) (j : Fin 7) (q : Fin 2) (n : Fin 1024) :
    got₀ m c (ix4 (0 : Fin 1) j q n) = part m (peer c (rev j)) 0 (ix2 q n) := by
  show landedBuf m c (rR₀.emb (ix4 (0 : Fin 1) j q n)) = _
  rw [rR₀_emb]; rfl
/-- and of the second. -/
theorem got₁_apply (c : Dev nD) (j : Fin 7) (q : Fin 2) (n : Fin 1024) :
    shapeCast S2x1024 (got₁ m c j) shapeCasts_S1x1x2x1024_S2x1024 (ix2 q n) = part m (peer c (rev j)) 1 (ix2 q n) := by
  show landedBuf m c ((rM 1 j).view.emb (ix2 q n)) = _
  rw [rM_emb]; rfl

/-- Every device stores, at each index, the sum of all partial sums there. -/
theorem outAt_eq (c : Dev nD) (q : Fin 2) (n : Fin 1024) :
    outAt m c (ix2 q n) = ∑ d : Dev nD, (part m d 0 (ix2 q n) + part m d 1 (ix2 q n)) := by
  have h0 : k0_pay12 (part m c 0) (part m c 1) (got₀ m c) (ix2 q n)
      = part m c 0 (ix2 q n) + part m c 1 (ix2 q n) + ∑ j : Fin 7, part m (peer c (rev j)) 0 (ix2 q n) :=
    congrArg (part m c 0 (ix2 q n) + part m c 1 (ix2 q n) + ·) ((sum_lead _ _ _ _ q n).trans (Finset.sum_congr rfl fun j _ =>
      (shapeCast_1abc_abc_apply (got₀ m c) _ j q n).trans (got₀_apply m c j q n)))
  have h1 (G : Fin 7 → EReal) (hG : ∀ j, shapeCast S2x1024 (got₁ m c j) shapeCasts_S1x1x2x1024_S2x1024 (ix2 q n) = G j) :
      outAt m c (ix2 q n) = k0_pay12 (part m c 0) (part m c 1) (got₀ m c) (ix2 q n) + G 3 + G 0 + G 2 + G 6 + G 4 + G 1 + G 5 := by
    rw [← hG 3, ← hG 0, ← hG 2, ← hG 6, ← hG 4, ← hG 1, ← hG 5]; rfl
  rw [h1 (fun j => part m (peer c (rev j)) 1 (ix2 q n)) fun j => got₁_apply m c j q n, h0]
  rw [Finset.sum_add_distrib, sum_peers (fun d => part m d 0 (ix2 q n)) c, sum_peers (fun d => part m d 1 (ix2 q n)) c,
    Fin.sum_univ_seven fun j => part m (peer c (rev j)) 1 (ix2 q n)]
  abel

end Cert.Exchange

end
-- ==== Proof.RefValue.lean ====
/-
  What the reference computes, over the extended reals: at every index the sum over all 8192 rows of the gradients'
  terms, each row normalised in the reference's way (`out_apply`).
-/
module

public import proofs.«01_k».proof.Proof.KernelValue
public import proofs.«01_k».proof.Proof.Gen.ReferenceIdeal.Run
public import Idealize.ShloMosaic.Lib.IdealHost

@[expose] public section

noncomputable section

namespace Cert.RefValue

open Cert.ReferenceIdeal Cert.ReferenceIdeal.Gen
open Idealize.ShloMosaic Idealize.ShloMosaic.TcCoe Idealize.ShloMosaic.ValueIdx Idealize.SL.Sem
open Cert.RowMath
open Cert.Exchange (term stack_top stack_bottom)

/-! ## The reference's stages -/

abbrev Arr : Type := FVec Ideal S8192x1024 .f32
abbrev Col : Type := FVec Ideal S8192x1 .f32

/-- A scalar in every row of a column. -/
abbrev fill {α : Type} (v : S_.Idx → α) : S8192x1.Idx → α := broadcastInDim S8192x1 ![] bcast_S_S8192x1 v
/-- A column in every column of an array. -/
abbrev wide (v : Col) : Arr := broadcastInDim S8192x1024 ![0, 1] bcast_S8192x1_S8192x1024_0_1 v
/-- The column of an array's row sums. -/
abbrev rowSum (x : Arr) : Col :=
  broadcastInDim S8192x1 ![0] bcast_S8192_S8192x1_0 (Host.reduceAdd x (constant S_ .f32 0x00000000#32) reducesTo_S8192x1024_S8192_d1 h_S_)
/-- The row of its column sums. -/
abbrev colSum (x : Arr) : FVec Ideal S1x1024 .f32 :=
  broadcastInDim S1x1024 ![1] bcast_S1024_S1x1024_1 (Host.reduceAdd x (constant S_ .f32 0x00000000#32) reducesTo_S8192x1024_S1024_d0 h_S_)

/-- The rows' means, the deviations from them, -/
def mean (x : Arr) : Col := Host.divf (rowSum x) (fill (constant S_ .f32 0x44800000#32))
def dev (x : Arr) : Arr := subf x (wide (mean x))
/-- the number the variance divides by, -/
def divisor : FVec Ideal S_ .f32 := subf (constant S_ .f32 0x44800000#32) (sitofp .f32 (constantI S_ 32 0#32))
/-- the rows' variances and the reciprocals of their square roots. -/
def var (x : Arr) : Col :=
  select (fill (cmpf .ogt divisor (constant S_ .f32 0x00000000#32))) (Host.divf (rowSum (mulf (dev x) (dev x))) (fill divisor))
    (fill (id (constant S_ .f32 0x7FC00000#32)))
def inv (x : Arr) : Col :=
  Host.divf (fill (constant S_ .f32 0x3F800000#32)) (Host.sqrt (addf (var x) (fill (constant S_ .f32 0x3727C5AC#32))))
/-- The result: the two gradients' sums, one row each. -/
def out (x dy : Arr) : FVec Ideal S2x1024 .f32 :=
  concatenate S2x1024 0 [⟨S1x1024, colSum (mulf dy (mulf (dev x) (wide (inv x))))⟩, ⟨S1x1024, colSum dy⟩] concatenates_S1x1024_S1x1024_S2x1024_d0

/-! ## Each stage at an index -/

/-- A filled column holds the scalar in every row. -/
theorem fill_apply {α : Type} (v : S_.Idx → α) (t : Fin 8192) : fill v (ix2 t (0 : Fin 1)) = v ix0 :=
  broadcastInDim_scalar_apply _ v _

/-- A widened column holds in each row the column's entry. -/
theorem wide_apply (v : Col) (t : Fin 8192) (n : Fin 1024) : wide v (ix2 t n) = v (ix2 t (0 : Fin 1)) :=
  broadcastInDim_apply _ _ v (ix2 t n) (ix2 t (0 : Fin 1)) fun a => by fin_cases a <;> rfl

/-- The sum of a row, -/
theorem rowSum_apply (x : Arr) (t : Fin 8192) : rowSum x (ix2 t (0 : Fin 1)) = ∑ n : Fin 1024, x (ix2 t n) := by
  refine (broadcastInDim_apply _ _ _ (ix2 t (0 : Fin 1)) (ix1 t) fun a => by fin_cases a; rfl).trans ?_
  refine (Ideal.hostReduceAdd_single reducesTo_S8192x1024_S8192_d1 (by decide) x _ (ix1 t)).trans ?_
  show Ideal.ofBits .f32 0x00000000#32 + _ = _
  rw [zero_eq, zero_add]
  exact Finset.sum_congr rfl fun n _ => congrArg x (funext fun d => Fin.ext (by fin_cases d <;> rfl))

/-- and of a column. -/
theorem colSum_apply (x : Arr) (n : Fin 1024) : colSum x (ix2 (0 : Fin 1) n) = ∑ t : Fin 8192, x (ix2 t n) := by
  refine (broadcastInDim_apply _ _ _ (ix2 (0 : Fin 1) n) (ix1 n) fun a => by fin_cases a; rfl).trans ?_
  refine (Ideal.hostReduceAdd_single reducesTo_S8192x1024_S1024_d0 (by decide) x _ (ix1 n)).trans ?_
  show Ideal.ofBits .f32 0x00000000#32 + _ = _
  rw [zero_eq, zero_add]
  exact Finset.sum_congr rfl fun t _ => congrArg x (funext fun d => Fin.ext (by fin_cases d <;> rfl))

/-- Row `t` of an array. -/
abbrev row (x : Arr) (t : Fin 8192) : Fin 1024 → EReal := fun n => x (ix2 t n)

/-- A row's mean, -/
theorem mean_apply (x : Arr) (t : Fin 8192) : mean x (ix2 t (0 : Fin 1)) = refMean (row x t) :=
  congrArg₂ Ideal.div (rowSum_apply x t) (fill_apply _ t)

/-- an entry's deviation from it, -/
theorem dev_apply (x : Arr) (t : Fin 8192) (n : Fin 1024) : dev x (ix2 t n) = x (ix2 t n) - refMean (row x t) :=
  congrArg (x (ix2 t n) - ·) ((wide_apply _ t n).trans (mean_apply x t))

/-- the divisor, which is 1024, -/
theorem divisor_eq : divisor ix0 = count := by
  show count - (((0#32).toInt : ℝ) : EReal) = count
  simp

/-- a row's variance, the divisor being positive, -/
theorem var_apply (x : Arr) (t : Fin 8192) : var x (ix2 t (0 : Fin 1)) = refVar (row x t) := by
  have hc : fill (cmpf .ogt divisor (constant S_ .f32 0x00000000#32)) (ix2 t (0 : Fin 1)) = 1#1 := by
    refine (fill_apply _ t).trans ?_
    show Ideal.cmp .ogt (divisor ix0) (Ideal.ofBits .f32 0x00000000#32) = 1#1
    rw [divisor_eq, zero_eq, count_eq]
    have h : (0 : EReal) < ((1024 : ℝ) : EReal) := by exact_mod_cast (by norm_num : (0 : ℝ) < 1024)
    simp [Ideal.cmp]
  have hv : Host.divf (rowSum (mulf (dev x) (dev x))) (fill divisor) (ix2 t (0 : Fin 1)) = refVar (row x t) :=
    congrArg₂ Ideal.div ((rowSum_apply _ t).trans (Finset.sum_congr rfl fun n _ => congrArg₂ (· * ·) (dev_apply x t n) (dev_apply x t n)))
      ((fill_apply _ t).trans divisor_eq)
  refine Eq.trans ?_ hv
  show (if fill (cmpf .ogt divisor (constant S_ .f32 0x00000000#32)) (ix2 t (0 : Fin 1)) = 1#1 then _ else _) = _
  rw [if_pos hc]

/-- and the reciprocal of its square root. -/
theorem inv_apply (x : Arr) (t : Fin 8192) :
    inv x (ix2 t (0 : Fin 1)) = Ideal.div unit (Ideal.sqrt (refVar (row x t) + eps)) :=
  congrArg₂ Ideal.div (fill_apply _ t) (congrArg Ideal.sqrt (congrArg₂ (· + ·) (var_apply x t) (fill_apply _ t)))

/-- The reference's result at an index. -/
theorem out_apply (x dy : Arr) (q : Fin 2) (n : Fin 1024) :
    out x dy (ix2 q n) = ∑ t : Fin 8192, term q (dy (ix2 t n)) (refRow (row x t) n) := by
  fin_cases q
  · exact (stack_top _ _ _ n).trans ((colSum_apply _ n).trans (Finset.sum_congr rfl fun t _ =>
      congrArg (dy (ix2 t n) * ·) (congrArg₂ (· * ·) (dev_apply x t n) ((wide_apply _ t n).trans (inv_apply x t)))))
  · exact (stack_bottom _ _ _ n).trans (colSum_apply _ n)

/-- The reference runs: its result is `out` of its arguments, which end unchanged, and every counter ends at zero. -/
theorem run (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_v19) = out (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨h, sem_eq_zero_of_no_sems (by decide) r.2⟩) (Cert.ReferenceIdeal.Value.run m ρ)

end Cert.RefValue

end
-- ==== Proof.Outcome.lean ====
/-
  What the kernel's run leaves, in the arrays' own terms, and its equality with the reference's result: the eight
  devices' blocks of 1024 rows, each in two halves of 512, are the reference's 8192 rows.
-/
module

public import proofs.«01_k».proof.Defs
public import proofs.«01_k».proof.Proof.Launch
public import proofs.«01_k».proof.Proof.RefValue
public import Idealize.ShloMosaic.Lib.ReduceAll
public import Idealize.ShloMosaic.Lib.KernelVsHost

@[expose] public section

noncomputable section

namespace Cert.Exchange

open Cert.KernelIdeal Cert.KernelIdeal.Gen
open Idealize.ShloMosaic Idealize.ShloMosaic.TcCoe Idealize.ShloMosaic.ValueIdx Idealize.SL.Sem
open Cert.RowMath

section
variable {F : FTy → Type} [FloatOps F] (m : (ℓ : Loc nD τ sig) → Buf (Elt F) ℓ) (ρ : Dev nD → PrngReg)

/-! ## The arrays at the end -/

/-- The inputs end as they were, -/
theorem final_x (c : Dev nD) : finalA m ρ c (0 : Fin 3) = m ((c : Thread nD τ).loc main_arg0) := (dats m ρ 0 c).arrAt_in (0 : Fin 3) rfl _
theorem final_y (c : Dev nD) : finalA m ρ c (1 : Fin 3) = m ((c : Thread nD τ).loc main_arg1) := (dats m ρ 0 c).arrAt_in (1 : Fin 3) rfl _
/-- and the result array ends holding what the body stored. -/
theorem final_out (c : Dev nD) : finalA m ρ c (2 : Fin 3) = outAt m c :=
  (dats m ρ 0 c).arrAt_eq_of_after_last (2 : Fin 3) t0_0 (by decide +kernel) (outAt m c) fun j => rfl

/-- The kernel runs: on every device the result is `outAt`, the arguments end unchanged, and every counter ends at zero. -/
theorem run_arrays : θ_run defs (onTc (τ := τ) (main (F := F))) ⟨m, fun _ => 0, ρ⟩ fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
    ∧ r.2.sem = fun _ => 0 :=
  (θ_run defs _ _).mono (fun r h => ⟨fun c => ⟨((h.1 c).1 (2 : Fin 3)).trans (final_out m ρ c), ((h.1 c).1 (0 : Fin 3)).trans (final_x m ρ c),
    ((h.1 c).1 (1 : Fin 3)).trans (final_y m ρ c), (h.1 c).2⟩, h.2⟩) (run_main m ρ)

end

/-! ## The rows -/

/-- Row `r` of half `h` of device `d`'s block, in the whole array. -/
def wholeRow (p : Fin 8 × Fin 2 × Fin 512) : Fin 8192 := ⟨1024 * p.1.val + 512 * p.2.1.val + p.2.2.val, by omega⟩

/-- Every row of the whole array is one device's, in one half. -/
def rowSplit : Fin 8 × Fin 2 × Fin 512 ≃ Fin 8192 where
  toFun := wholeRow
  invFun t := (⟨t.val / 1024, by omega⟩, ⟨t.val % 1024 / 512, by omega⟩, ⟨t.val % 512, by omega⟩)
  left_inv p := by
    obtain ⟨d, h, r⟩ := p
    refine Prod.ext (Fin.ext ?_) (Prod.ext (Fin.ext ?_) (Fin.ext ?_)) <;> simp only [wholeRow] <;> omega
  right_inv t := Fin.ext (by simp only [wholeRow]; omega)

/-- A sum over all rows, device by device and half by half. -/
theorem sum_whole (f : Fin 8192 → EReal) :
    ∑ t, f t = ∑ d : Fin 8, ((∑ r : Fin 512, f (wholeRow (d, 0, r))) + ∑ r : Fin 512, f (wholeRow (d, 1, r))) := by
  rw [← rowSplit.sum_comp f, Fintype.sum_prod_type]
  refine Finset.sum_congr rfl fun d _ => ?_
  rw [Fintype.sum_prod_type, Fin.sum_univ_two]; rfl

/-- A device's block at a row of one of its halves is the whole array at that row. -/
theorem block_row (X : RefValue.Arr) (d : Fin 8) (h : Fin 2) (r : Fin 512) (n : Fin 1024) :
    Layout.block (⟨2, ![1024, 1024]⟩ : Shape) ⟨2, ![8192, 1024]⟩ 0 8 d X (by decide) (ix2 (halfRow h r) n) = X (ix2 (wholeRow (d, h, r)) n) := by
  refine congrArg X (funext fun a => Fin.ext ?_)
  fin_cases a
  · show d.val * 1024 + (512 * h.val + r.val) = 1024 * d.val + 512 * h.val + r.val
    omega
  · rfl

/-- The precondition's array being all ones says every entry of `x` is a real number. -/
theorem finite_of_pre [hf : Cert.Pre_x_finite_KernelIdeal.Facts] (x y : FVec Ideal S1024x1024 .f32) (g : FVec Ideal S1024 .f32)
    (h : Cert.Pre_x_finite_KernelIdeal.fn (F := Ideal) x y g = fun _ => 1#1) (i : S1024x1024.Idx) : ∃ r : ℝ, x i = (r : EReal) := by
  haveI : Subsingleton (⟨0, ![]⟩ : Shape).Idx := ⟨fun a b => funext fun k => k.elim0⟩
  have e0 := congrFun h ix0
  unfold Cert.Pre_x_finite_KernelIdeal.fn at e0
  dsimp only at e0
  have e1 := Host.reduce_andi_all _ _ _ _ ix0 e0 i
  have e : FloatOps.cmpf .olt (FloatOps.hostAbsf (x i)) (FloatOps.ofBits (F := Ideal) .f32 0x7F800000#32) = 1#1 := e1
  rw [← Ideal.xori_weird_eq_hostAbsf_olt_inf] at e
  have hx : ¬ ((x i : EReal) = ⊤ ∨ (x i : EReal) = ⊥) := fun hw => by
    have : FloatOps.weird (x i) = 1#1 := by
      show BitVec.ofBool (decide ((x i : EReal) = ⊤ ∨ (x i : EReal) = ⊥)) = 1#1
      rw [decide_eq_true hw]; rfl
    rw [this] at e
    exact absurd e (by decide)
  rw [not_or] at hx
  exact ⟨(x i : EReal).toReal, (EReal.coe_toReal hx.1 hx.2).symm⟩

/-- What every device stores is the reference's result of the whole arrays, the entries of `x` being real numbers. -/
theorem outAt_eq_out (m : (ℓ : Loc nD τ sig) → Buf (Elt Ideal) ℓ) (X Y : RefValue.Arr)
    (hX : ∀ d : Dev nD, m ((d : Thread nD τ).loc main_arg0) = Layout.block (⟨2, ![1024, 1024]⟩ : Shape) ⟨2, ![8192, 1024]⟩ 0 8 d X)
    (hY : ∀ d : Dev nD, m ((d : Thread nD τ).loc main_arg1) = Layout.block (⟨2, ![1024, 1024]⟩ : Shape) ⟨2, ![8192, 1024]⟩ 0 8 d Y)
    (hfin : ∀ (d : Dev nD) (i : S1024x1024.Idx), ∃ r : ℝ, m ((d : Thread nD τ).loc main_arg0) i = (r : EReal)) (c : Dev nD) :
    outAt m c = RefValue.out X Y := by
  have hx (d : Dev nD) (h : Fin 2) (r : Fin 512) (n : Fin 1024) : xAt m d (ix2 (halfRow h r) n) = X (ix2 (wholeRow (d, h, r)) n) := by
    rw [xAt_eq, hX]; exact block_row X d h r n
  have hy (d : Dev nD) (h : Fin 2) (r : Fin 512) (n : Fin 1024) : yAt m d (ix2 (halfRow h r) n) = Y (ix2 (wholeRow (d, h, r)) n) := by
    rw [yAt_eq, hY]; exact block_row Y d h r n
  have hp (d : Dev nD) (h q : Fin 2) (n : Fin 1024) :
      part m d h (ix2 q n) = ∑ r : Fin 512, term q (Y (ix2 (wholeRow (d, h, r)) n)) (refRow (RefValue.row X (wholeRow (d, h, r))) n) := by
    refine (part_eq m d h q n).trans (Finset.sum_congr rfl fun r _ => ?_)
    refine congrArg₂ (term q) (hy d h r n) ?_
    refine (kernelRow_eq (fun n => ?_) n).trans (congrArg (refRow · n) (funext fun n => hx d h r n))
    rw [xAt_eq]; exact hfin d _
  funext i
  obtain ⟨q, n, rfl⟩ : ∃ (q : Fin 2) (n : Fin 1024), i = ix2 q n := ⟨_, _, eq_ix2 i⟩
  exact (outAt_eq m c q n).trans ((Finset.sum_congr rfl fun d _ => congrArg₂ (fun a b : EReal => a + b) (hp d 0 q n) (hp d 1 q n)).trans
    ((sum_whole fun t => term q (Y (ix2 t n)) (refRow (RefValue.row X t) n)).symm.trans (RefValue.out_apply X Y q n).symm))

end Cert.Exchange

end
-- ==== Proof.SameText.lean ====
/-
  The printed kernel and its idealisation have the same text, so a run of the one is a run of the other: their body
  tables are equal (`defs_eq`), and with them their runs (`run_eq`).
-/
module

public import proofs.«01_k».proof.Proof.Gen.Kernel
public import proofs.«01_k».proof.Proof.Gen.KernelIdeal

@[expose] public section

noncomputable section

namespace Cert.SameText

open Idealize.ShloMosaic Idealize.ShloMosaic.TcCoe Idealize.SL.Sem

variable {F : FTy → Type} [FloatOps F]

/-- The two kernel functions are one. -/
theorem body_eq (a0 h0 a1 h1 a2 h2 a3 h3 a4 h4 a5 a6) :
    Cert.Kernel.cc0_body (F := F) a0 h0 a1 h1 a2 h2 a3 h3 a4 h4 a5 a6 = Cert.KernelIdeal.cc0_body (F := F) a0 h0 a1 h1 a2 h2 a3 h3 a4 h4 a5 a6 := rfl

/-- So are the tables that call them. -/
theorem defs₀_eq : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => exact body_eq ..
  | ⟨_ + 1, h⟩, _ => exact absurd h (Nat.not_lt.2 (Nat.le_add_left _ _))

/-- And so are the whole programs' tables. -/
theorem defs_eq : Cert.Kernel.defs (F := F) = Cert.KernelIdeal.defs (F := F) :=
  congrArg (Pipeline.defs (Cert.KernelIdeal.pcfgs (F := F))) defs₀_eq

/-- The two programs run alike from any state. -/
theorem run_eq (s : MemSt Cert.KernelIdeal.nD Cert.KernelIdeal.τ Cert.KernelIdeal.sig (Elt F)) :
    θ_run (Cert.Kernel.defs (F := F)) (onTc (τ := Cert.Kernel.τ) (Cert.Kernel.main (F := F))) s
      = θ_run (Cert.KernelIdeal.defs (F := F)) (onTc (τ := Cert.KernelIdeal.τ) (Cert.KernelIdeal.main (F := F))) s :=
  congrArg (fun D => θ_run D (onTc (τ := Cert.KernelIdeal.τ) (Cert.KernelIdeal.main (F := F))) s) defs_eq

end Cert.SameText

end
-- ==== Proof.lean ====
/-
  The proof of every claim (`claim`): the kernel's two frames and the reference's, the idealisation, which rewrites
  nothing, and the equality of the two results on finite `x`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Outcome
public import proofs.«01_k».proof.Proof.SameText
public import Idealize.ShloMosaic.Adequacy
public import Idealize.ShloMosaic.Init

@[expose] public section

noncomputable section

namespace Cert.Proof

open Idealize.ShloMosaic Idealize.ShloMosaic.TcCoe Idealize.SL.Sem

/-- The precondition's shape facts, at a device's block and at the whole array. -/
theorem pre_block : Cert.Pre_x_finite_KernelIdeal.Facts := ⟨by decide, by decide, by decide⟩
theorem pre_whole : Cert.Pre_x_finite_ReferenceIdeal.Facts := ⟨by decide, by decide, by decide⟩

/-- The printed kernel's frame, -/
theorem frame_kernel : Cert.quiescent_Kernel (hKernel := Cert.Kernel.Gen.facts) := fun m ρ _ =>
  (congrFun (congrArg _ (Cert.SameText.run_eq (F := Bits) ⟨m, fun _ => 0, ρ⟩)) _).mpr
    ((θ_run (Cert.KernelIdeal.defs (F := Bits)) _ _).mono (fun r h => ⟨fun c => (h.1 c).2, h.2⟩) (Cert.Exchange.run_arrays (F := Bits) m ρ))
/-- the idealised kernel's -/
theorem frame_ideal : Cert.quiescent_KernelIdeal (hKernelIdeal := Cert.KernelIdeal.Gen.facts) := fun m ρ _ =>
  (θ_run Cert.KernelIdeal.defs _ _).mono (fun r h => ⟨fun c => (h.1 c).2, h.2⟩) (Cert.Exchange.run_arrays (F := Ideal) m ρ)
/-- and the reference's. -/
theorem frame_reference : Cert.quiescent_ReferenceIdeal (hReferenceIdeal := Cert.ReferenceIdeal.Gen.facts) := fun m ρ _ =>
  (θ_run Cert.ReferenceIdeal.defs _ _).mono (fun r h => ⟨fun c => (h.1 c).2, h.2⟩) (Cert.RefValue.run m ρ)

/-- On finite `x` both programs end with the reference's result of the whole arrays. -/
theorem same_result : Cert.algebraic_KernelIdeal_ReferenceIdeal_pre_x_finite_KernelIdeal (hKernelIdeal := Cert.KernelIdeal.Gen.facts)
    (hReferenceIdeal := Cert.ReferenceIdeal.Gen.facts) (hPre_x_finite_KernelIdeal := pre_block) := fun m ρ m' ρ' hpre hargs =>
  ⟨Cert.RefValue.out (m' (((0 : Dev Cert.ReferenceIdeal.nD) : Thread Cert.ReferenceIdeal.nD Cert.ReferenceIdeal.τ).loc Cert.ReferenceIdeal.main_arg0))
      (m' (((0 : Dev Cert.ReferenceIdeal.nD) : Thread Cert.ReferenceIdeal.nD Cert.ReferenceIdeal.τ).loc Cert.ReferenceIdeal.main_arg1)),
    (θ_run Cert.KernelIdeal.defs _ _).mono (fun r h c => ⟨(h.1 c).1.trans (Cert.Exchange.outAt_eq_out m _ _ (fun d => (hargs d).1)
        (fun d => (hargs d).2.1) (fun d i => Cert.Exchange.finite_of_pre (hf := pre_block) _ _ _ (hpre d) i) c), (h.1 c).2⟩)
      (Cert.Exchange.run_arrays (F := Ideal) m ρ),
    (θ_run Cert.ReferenceIdeal.defs _ _).mono (fun r h => h.1 0) (Cert.RefValue.run m' ρ')⟩

/-- Every claim. -/
theorem claim : Cert.Claim :=
  ⟨Cert.Kernel.Gen.facts, Cert.KernelIdeal.Gen.facts, Cert.ReferenceIdeal.Gen.facts, pre_block, pre_whole,
    frame_kernel, frame_ideal, fun m ρ _ => frame_ideal m ρ trivial, frame_reference, fun m ρ _ => frame_reference m ρ trivial,
    trivial, same_result⟩

end Cert.Proof

end
